-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x8x13x512x2 : Shape := ⟨5, ![128, 8, 13, 512, 2]⟩
abbrev S128x8x2 : Shape := ⟨3, ![128, 8, 2]⟩
abbrev S2x512x12 : Shape := ⟨3, ![2, 512, 12]⟩
abbrev S2x12 : Shape := ⟨2, ![2, 12]⟩
abbrev S2 : Shape := ⟨1, ![2]⟩
abbrev S24x2 : Shape := ⟨2, ![24, 2]⟩
abbrev S12x12 : Shape := ⟨2, ![12, 12]⟩
abbrev S128x8x13x4x128x2 : Shape := ⟨6, ![128, 8, 13, 4, 128, 2]⟩
abbrev S128x8x13x4x2x128 : Shape := ⟨6, ![128, 8, 13, 4, 2, 128]⟩
abbrev S13312x8x128 : Shape := ⟨3, ![13312, 8, 128]⟩
abbrev S128x8x104x128 : Shape := ⟨4, ![128, 8, 104, 128]⟩
abbrev S2x4x128x12 : Shape := ⟨4, ![2, 4, 128, 12]⟩
abbrev S12x4x2x128 : Shape := ⟨4, ![12, 4, 2, 128]⟩
abbrev S12x1024 : Shape := ⟨2, ![12, 1024]⟩
abbrev S1024 : Shape := ⟨1, ![1024]⟩
abbrev S_ : Shape := ⟨0, ![]⟩
abbrev S24 : Shape := ⟨1, ![24]⟩
abbrev S1x1024 : Shape := ⟨2, ![1, 1024]⟩
abbrev S24x1 : Shape := ⟨2, ![24, 1]⟩
abbrev S24x1024 : Shape := ⟨2, ![24, 1024]⟩
abbrev S12x2x1024 : Shape := ⟨3, ![12, 2, 1024]⟩
abbrev S12x2 : Shape := ⟨2, ![12, 2]⟩
abbrev S1x24 : Shape := ⟨2, ![1, 24]⟩
abbrev S1x1000 : Shape := ⟨2, ![1, 1000]⟩
abbrev S25x1024 : Shape := ⟨2, ![25, 1024]⟩
abbrev S1024x2 : Shape := ⟨2, ![1024, 2]⟩
abbrev S1024x6 : Shape := ⟨2, ![1024, 6]⟩
abbrev S3328 : Shape := ⟨1, ![3328]⟩
abbrev S3328x1 : Shape := ⟨2, ![3328, 1]⟩
abbrev S3328x24 : Shape := ⟨2, ![3328, 24]⟩
abbrev S256 : Shape := ⟨1, ![256]⟩
abbrev S1x3328 : Shape := ⟨2, ![1, 3328]⟩
abbrev S256x1 : Shape := ⟨2, ![256, 1]⟩
abbrev S256x3328 : Shape := ⟨2, ![256, 3328]⟩
abbrev S1x256 : Shape := ⟨2, ![1, 256]⟩
abbrev S256x256 : Shape := ⟨2, ![256, 256]⟩
abbrev S1024x12 : Shape := ⟨2, ![1024, 12]⟩
abbrev S3328x8x128 : Shape := ⟨3, ![3328, 8, 128]⟩
abbrev S32x8x8x128 : Shape := ⟨4, ![32, 8, 8, 128]⟩
abbrev S256x6 : Shape := ⟨2, ![256, 6]⟩
abbrev S256x12 : Shape := ⟨2, ![256, 12]⟩
abbrev S3328x1024 : Shape := ⟨2, ![3328, 1024]⟩
abbrev S256x24 : Shape := ⟨2, ![256, 24]⟩
abbrev S256x2 : Shape := ⟨2, ![256, 2]⟩
abbrev S256x1024 : Shape := ⟨2, ![256, 1024]⟩

abbrev nBuf : Space → Nat
  | .hbm => 99
  | .vmem => 14
  | .smem => 0
  | _ => 0

abbrev bufTy : (tb : Table) → Fin (tcTables nBuf tb) → BufTy
  | .hbm, ⟨0, _⟩ => ⟨S128x8x13x512x2, .f32⟩
  | .hbm, ⟨1, _⟩ => ⟨S128x8x13x512x2, .f32⟩
  | .hbm, ⟨2, _⟩ => ⟨S128x8x2, .f32⟩
  | .hbm, ⟨3, _⟩ => ⟨S128x8x2, .f32⟩
  | .hbm, ⟨4, _⟩ => ⟨S2x512x12, .f32⟩
  | .hbm, ⟨5, _⟩ => ⟨S2x12, .f32⟩
  | .hbm, ⟨6, _⟩ => ⟨S2, .f32⟩
  | .hbm, ⟨7, _⟩ => ⟨S24x2, .f32⟩
  | .hbm, ⟨8, _⟩ => ⟨S12x12, .f32⟩
  | .hbm, ⟨9, _⟩ => ⟨S128x8x13x4x128x2, .f32⟩
  | .hbm, ⟨10, _⟩ => ⟨S128x8x13x4x2x128, .f32⟩
  | .hbm, ⟨11, _⟩ => ⟨S13312x8x128, .f32⟩
  | .hbm, ⟨12, _⟩ => ⟨S128x8x13x4x128x2, .f32⟩
  | .hbm, ⟨13, _⟩ => ⟨S128x8x13x4x2x128, .f32⟩
  | .hbm, ⟨14, _⟩ => ⟨S128x8x104x128, .f32⟩
  | .hbm, ⟨15, _⟩ => ⟨S2x4x128x12, .f32⟩
  | .hbm, ⟨16, _⟩ => ⟨S12x4x2x128, .f32⟩
  | .hbm, ⟨17, _⟩ => ⟨S12x1024, .f32⟩
  | .hbm, ⟨18, _⟩ => ⟨S1024, .i32⟩
  | .hbm, ⟨19, _⟩ => ⟨S_, .i32⟩
  | .hbm, ⟨20, _⟩ => ⟨S1024, .i32⟩
  | .hbm, ⟨21, _⟩ => ⟨S1024, .i32⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S24, .i32⟩
  | .hbm, ⟨26, _⟩ => ⟨S1x1024, .i32⟩
  | .hbm, ⟨27, _⟩ => ⟨S_, .i32⟩
  | .hbm, ⟨28, _⟩ => ⟨S24, .i32⟩
  | .hbm, ⟨29, _⟩ => ⟨S24, .i32⟩
  | .hbm, ⟨30, _⟩ => ⟨S24x1, .i32⟩
  | .hbm, ⟨31, _⟩ => ⟨S24x1024, .i32⟩
  | .hbm, ⟨32, _⟩ => ⟨S24x1024, .i32⟩
  | .hbm, ⟨33, _⟩ => ⟨S24x1024, .i1⟩
  | .hbm, ⟨34, _⟩ => ⟨S24x1024, .f32⟩
  | .hbm, ⟨35, _⟩ => ⟨S12x2x1024, .f32⟩
  | .hbm, ⟨36, _⟩ => ⟨S24x1024, .f32⟩
  | .hbm, ⟨37, _⟩ => ⟨S24x1024, .f32⟩
  | .hbm, ⟨38, _⟩ => ⟨S12x2, .f32⟩
  | .hbm, ⟨39, _⟩ => ⟨S1x24, .f32⟩
  | .hbm, ⟨40, _⟩ => ⟨S_, .f32⟩
  | .hbm, ⟨41, _⟩ => ⟨S1x1000, .f32⟩
  | .hbm, ⟨42, _⟩ => ⟨S1x1024, .f32⟩
  | .hbm, ⟨43, _⟩ => ⟨S25x1024, .f32⟩
  | .hbm, ⟨44, _⟩ => ⟨S1024x2, .f32⟩
  | .hbm, ⟨45, _⟩ => ⟨S1024x2, .f32⟩
  | .hbm, ⟨46, _⟩ => ⟨S1024x2, .f32⟩
  | .hbm, ⟨47, _⟩ => ⟨S1024x6, .f32⟩
  | .hbm, ⟨48, _⟩ => ⟨S3328, .i32⟩
  | .hbm, ⟨49, _⟩ => ⟨S_, .i32⟩
  | .hbm, ⟨50, _⟩ => ⟨S3328, .i32⟩
  | .hbm, ⟨51, _⟩ => ⟨S3328, .i32⟩
  | .hbm, ⟨52, _⟩ => ⟨S3328x1, .i32⟩
  | .hbm, ⟨53, _⟩ => ⟨S_, .i32⟩
  | .hbm, ⟨54, _⟩ => ⟨S3328x1, .i32⟩
  | .hbm, ⟨55, _⟩ => ⟨S3328x1, .i1⟩
  | .hbm, ⟨56, _⟩ => ⟨S_, .i32⟩
  | .hbm, ⟨57, _⟩ => ⟨S24, .i32⟩
  | .hbm, ⟨58, _⟩ => ⟨S24, .i32⟩
  | .hbm, ⟨59, _⟩ => ⟨S1x24, .i32⟩
  | .hbm, ⟨60, _⟩ => ⟨S3328x1, .i32⟩
  | .hbm, ⟨61, _⟩ => ⟨S_, .i32⟩
  | .hbm, ⟨62, _⟩ => ⟨S3328x1, .i32⟩
  | .hbm, ⟨63, _⟩ => ⟨S3328x1, .i32⟩
  | .hbm, ⟨64, _⟩ => ⟨S3328x24, .i32⟩
  | .hbm, ⟨65, _⟩ => ⟨S3328x24, .i32⟩
  | .hbm, ⟨66, _⟩ => ⟨S3328x24, .i1⟩
  | .hbm, ⟨67, _⟩ => ⟨S3328x24, .i1⟩
  | .hbm, ⟨68, _⟩ => ⟨S3328x24, .i1⟩
  | .hbm, ⟨69, _⟩ => ⟨S3328x24, .f32⟩
  | .hbm, ⟨70, _⟩ => ⟨S256, .i32⟩
  | .hbm, ⟨71, _⟩ => ⟨S_, .i32⟩
  | .hbm, ⟨72, _⟩ => ⟨S3328, .i32⟩
  | .hbm, ⟨73, _⟩ => ⟨S3328, .i32⟩
  | .hbm, ⟨74, _⟩ => ⟨S1x3328, .i32⟩
  | .hbm, ⟨75, _⟩ => ⟨S256x1, .i32⟩
  | .hbm, ⟨76, _⟩ => ⟨S256x3328, .i32⟩
  | .hbm, ⟨77, _⟩ => ⟨S256x3328, .i32⟩
  | .hbm, ⟨78, _⟩ => ⟨S256x3328, .i1⟩
  | .hbm, ⟨79, _⟩ => ⟨S256x3328, .f32⟩
  | .hbm, ⟨80, _⟩ => ⟨S_, .i32⟩
  | .hbm, ⟨81, _⟩ => ⟨S256, .i32⟩
  | .hbm, ⟨82, _⟩ => ⟨S256, .i32⟩
  | .hbm, ⟨83, _⟩ => ⟨S_, .i32⟩
  | .hbm, ⟨84, _⟩ => ⟨S256, .i32⟩
  | .hbm, ⟨85, _⟩ => ⟨S256, .i32⟩
  | .hbm, ⟨86, _⟩ => ⟨S256x1, .i32⟩
  | .hbm, ⟨87, _⟩ => ⟨S1x256, .i32⟩
  | .hbm, ⟨88, _⟩ => ⟨S256x256, .i32⟩
  | .hbm, ⟨89, _⟩ => ⟨S256x256, .i32⟩
  | .hbm, ⟨90, _⟩ => ⟨S256x256, .i1⟩
  | .hbm, ⟨91, _⟩ => ⟨S1x256, .i32⟩
  | .hbm, ⟨92, _⟩ => ⟨S256x1, .i32⟩
  | .hbm, ⟨93, _⟩ => ⟨S256x256, .i32⟩
  | .hbm, ⟨94, _⟩ => ⟨S256x256, .i32⟩
  | .hbm, ⟨95, _⟩ => ⟨S256x256, .i1⟩
  | .hbm, ⟨96, _⟩ => ⟨S256x256, .i1⟩
  | .hbm, ⟨97, _⟩ => ⟨S256x256, .f32⟩
  | .hbm, ⟨98, _⟩ => ⟨S1024x12, .f32⟩
  | .local _ .vmem, ⟨0, _⟩ => ⟨S3328x8x128, .f32⟩
  | .local _ .vmem, ⟨1, _⟩ => ⟨S3328x8x128, .f32⟩
  | .local _ .vmem, ⟨2, _⟩ => ⟨S32x8x8x128, .f32⟩
  | .local _ .vmem, ⟨3, _⟩ => ⟨S32x8x8x128, .f32⟩
  | .local _ .vmem, ⟨4, _⟩ => ⟨S25x1024, .f32⟩
  | .local _ .vmem, ⟨5, _⟩ => ⟨S256x6, .f32⟩
  | .local _ .vmem, ⟨6, _⟩ => ⟨S256x6, .f32⟩
  | .local _ .vmem, ⟨7, _⟩ => ⟨S3328x24, .f32⟩
  | .local _ .vmem, ⟨8, _⟩ => ⟨S256x3328, .f32⟩
  | .local _ .vmem, ⟨9, _⟩ => ⟨S24x2, .f32⟩
  | .local _ .vmem, ⟨10, _⟩ => ⟨S256x256, .f32⟩
  | .local _ .vmem, ⟨11, _⟩ => ⟨S12x12, .f32⟩
  | .local _ .vmem, ⟨12, _⟩ => ⟨S256x12, .f32⟩
  | .local _ .vmem, ⟨13, _⟩ => ⟨S256x12, .f32⟩
  | _, _ => ⟨S128x8x13x512x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_5 : Ref sig .tc := ⟨.hbm, 53, rfl⟩
abbrev main_v39 : Ref sig .tc := ⟨.hbm, 54, rfl⟩
abbrev main_v40 : Ref sig .tc := ⟨.hbm, 55, rfl⟩
abbrev main_c_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_8 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_c_9 : Ref sig .tc := ⟨.hbm, 80, rfl⟩
abbrev main_v62 : Ref sig .tc := ⟨.hbm, 81, rfl⟩
abbrev main_v63 : Ref sig .tc := ⟨.hbm, 82, rfl⟩
abbrev main_c_10 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3328x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x8x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S25x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x6 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3328x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x3328 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S24x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S12x12 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x12 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S128x8x13x512x2 : Shape := ⟨5, ![128, 8, 13, 512, 2]⟩
abbrev S128x8x2 : Shape := ⟨3, ![128, 8, 2]⟩
abbrev S2x512x12 : Shape := ⟨3, ![2, 512, 12]⟩
abbrev S2x12 : Shape := ⟨2, ![2, 12]⟩
abbrev S2 : Shape := ⟨1, ![2]⟩
abbrev S128x8x1x512x2 : Shape := ⟨5, ![128, 8, 1, 512, 2]⟩
abbrev S2x12x128x8x1 : Shape := ⟨5, ![2, 12, 128, 8, 1]⟩
abbrev S128x8x1x12x2 : Shape := ⟨5, ![128, 8, 1, 12, 2]⟩
abbrev S12x2 : Shape := ⟨2, ![12, 2]⟩
abbrev S1x1x1x12x2 : Shape := ⟨5, ![1, 1, 1, 12, 2]⟩
abbrev S_ : Shape := ⟨0, ![]⟩
abbrev S128x8x12x2 : Shape := ⟨4, ![128, 8, 12, 2]⟩
abbrev S1x1x2 : Shape := ⟨3, ![1, 1, 2]⟩
abbrev S128x8x12x512x2 : Shape := ⟨5, ![128, 8, 12, 512, 2]⟩
abbrev S2x12x128x8x12 : Shape := ⟨5, ![2, 12, 128, 8, 12]⟩
abbrev S128x8x12x12x2 : Shape := ⟨5, ![128, 8, 12, 12, 2]⟩
abbrev S128x8x2x12x12 : Shape := ⟨5, ![128, 8, 2, 12, 12]⟩
abbrev S12 : Shape := ⟨1, ![12]⟩
abbrev S12x1 : Shape := ⟨2, ![12, 1]⟩
abbrev S128x8x2x12 : Shape := ⟨4, ![128, 8, 2, 12]⟩
abbrev S128x1x2 : Shape := ⟨3, ![128, 1, 2]⟩
abbrev S128x7x2 : Shape := ⟨3, ![128, 7, 2]⟩
abbrev S128x8x2x1 : Shape := ⟨4, ![128, 8, 2, 1]⟩
abbrev S128x8x2x6 : Shape := ⟨4, ![128, 8, 2, 6]⟩
abbrev S1024x12 : Shape := ⟨2, ![1024, 12]⟩

abbrev nBuf : Space → Nat
  | .hbm => 115
  | .vmem => 0
  | .smem => 0
  | _ => 0

abbrev bufTy : (tb : Table) → Fin (tcTables nBuf tb) → BufTy
  | .hbm, ⟨0, _⟩ => ⟨S128x8x13x512x2, .f32⟩
  | .hbm, ⟨1, _⟩ => ⟨S128x8x13x512x2, .f32⟩
  | .hbm, ⟨2, _⟩ => ⟨S128x8x2, .f32⟩
  | .hbm, ⟨3, _⟩ => ⟨S128x8x2, .f32⟩
  | .hbm, ⟨4, _⟩ => ⟨S2x512x12, .f32⟩
  | .hbm, ⟨5, _⟩ => ⟨S2x12, .f32⟩
  | .hbm, ⟨6, _⟩ => ⟨S2, .f32⟩
  | .hbm, ⟨7, _⟩ => ⟨S128x8x1x512x2, .f32⟩
  | .hbm, ⟨8, _⟩ => ⟨S2x12x128x8x1, .f32⟩
  | .hbm, ⟨9, _⟩ => ⟨S128x8x1x12x2, .f32⟩
  | .hbm, ⟨10, _⟩ => ⟨S12x2, .f32⟩
  | .hbm, ⟨11, _⟩ => ⟨S1x1x1x12x2, .f32⟩
  | .hbm, ⟨12, _⟩ => ⟨S128x8x1x12x2, .f32⟩
  | .hbm, ⟨13, _⟩ => ⟨S128x8x1x12x2, .f32⟩
  | .hbm, ⟨14, _⟩ => ⟨S_, .f32⟩
  | .hbm, ⟨15, _⟩ => ⟨S128x8x1x12x2, .f32⟩
  | .hbm, ⟨16, _⟩ => ⟨S128x8x1x12x2, .f32⟩
  | .hbm, ⟨17, _⟩ => ⟨S128x8x1x12x2, .f32⟩
  | .hbm, ⟨18, _⟩ => ⟨S128x8x1x12x2, .f32⟩
  | .hbm, ⟨19, _⟩ => ⟨S128x8x1x12x2, .i1⟩
  | .hbm, ⟨20, _⟩ => ⟨S128x8x1x12x2, .f32⟩
  | .hbm, ⟨21, _⟩ => ⟨S128x8x1x12x2, .f32⟩
  | .hbm, ⟨22, _⟩ => ⟨S128x8x1x12x2, .f32⟩
  | .hbm, ⟨23, _⟩ => ⟨S128x8x1x12x2, .f32⟩
  | .hbm, ⟨24, _⟩ => ⟨S128x8x1x12x2, .f32⟩
  | .hbm, ⟨25, _⟩ => ⟨S128x8x1x12x2, .f32⟩
  | .hbm, ⟨26, _⟩ => ⟨S128x8x1x12x2, .f32⟩
  | .hbm, ⟨27, _⟩ => ⟨S128x8x1x12x2, .f32⟩
  | .hbm, ⟨28, _⟩ => ⟨S128x8x12x2, .f32⟩
  | .hbm, ⟨29, _⟩ => ⟨S_, .f32⟩
  | .hbm, ⟨30, _⟩ => ⟨S128x8x2, .f32⟩
  | .hbm, ⟨31, _⟩ => ⟨S_, .f32⟩
  | .hbm, ⟨32, _⟩ => ⟨S128x8x2, .f32⟩
  | .hbm, ⟨33, _⟩ => ⟨S128x8x2, .f32⟩
  | .hbm, ⟨34, _⟩ => ⟨S2, .f32⟩
  | .hbm, ⟨35, _⟩ => ⟨S_, .f32⟩
  | .hbm, ⟨36, _⟩ => ⟨S2, .f32⟩
  | .hbm, ⟨37, _⟩ => ⟨S2, .f32⟩
  | .hbm, ⟨38, _⟩ => ⟨S1x1x2, .f32⟩
  | .hbm, ⟨39, _⟩ => ⟨S128x8x2, .f32⟩
  | .hbm, ⟨40, _⟩ => ⟨S128x8x2, .f32⟩
  | .hbm, ⟨41, _⟩ => ⟨S_, .f32⟩
  | .hbm, ⟨42, _⟩ => ⟨S128x8x2, .f32⟩
  | .hbm, ⟨43, _⟩ => ⟨S128x8x2, .f32⟩
  | .hbm, ⟨44, _⟩ => ⟨S128x8x12x512x2, .f32⟩
  | .hbm, ⟨45, _⟩ => ⟨S2x12x128x8x12, .f32⟩
  | .hbm, ⟨46, _⟩ => ⟨S128x8x12x12x2, .f32⟩
  | .hbm, ⟨47, _⟩ => ⟨S12x2, .f32⟩
  | .hbm, ⟨48, _⟩ => ⟨S1x1x1x12x2, .f32⟩
  | .hbm, ⟨49, _⟩ => ⟨S128x8x12x12x2, .f32⟩
  | .hbm, ⟨50, _⟩ => ⟨S128x8x12x12x2, .f32⟩
  | .hbm, ⟨51, _⟩ => ⟨S_, .f32⟩
  | .hbm, ⟨52, _⟩ => ⟨S128x8x12x12x2, .f32⟩
  | .hbm, ⟨53, _⟩ => ⟨S128x8x12x12x2, .f32⟩
  | .hbm, ⟨54, _⟩ => ⟨S128x8x12x12x2, .f32⟩
  | .hbm, ⟨55, _⟩ => ⟨S128x8x12x12x2, .f32⟩
  | .hbm, ⟨56, _⟩ => ⟨S128x8x12x12x2, .i1⟩
  | .hbm, ⟨57, _⟩ => ⟨S128x8x12x12x2, .f32⟩
  | .hbm, ⟨58, _⟩ => ⟨S128x8x12x12x2, .f32⟩
  | .hbm, ⟨59, _⟩ => ⟨S128x8x12x12x2, .f32⟩
  | .hbm, ⟨60, _⟩ => ⟨S128x8x12x12x2, .f32⟩
  | .hbm, ⟨61, _⟩ => ⟨S128x8x12x12x2, .f32⟩
  | .hbm, ⟨62, _⟩ => ⟨S128x8x12x12x2, .f32⟩
  | .hbm, ⟨63, _⟩ => ⟨S128x8x12x12x2, .f32⟩
  | .hbm, ⟨64, _⟩ => ⟨S128x8x12x12x2, .f32⟩
  | .hbm, ⟨65, _⟩ => ⟨S128x8x2x12x12, .f32⟩
  | .hbm, ⟨66, _⟩ => ⟨S12, .i32⟩
  | .hbm, ⟨67, _⟩ => ⟨S12, .i32⟩
  | .hbm, ⟨68, _⟩ => ⟨S_, .i32⟩
  | .hbm, ⟨69, _⟩ => ⟨S12, .i32⟩
  | .hbm, ⟨70, _⟩ => ⟨S12, .i1⟩
  | .hbm, ⟨71, _⟩ => ⟨S_, .i32⟩
  | .hbm, ⟨72, _⟩ => ⟨S12, .i32⟩
  | .hbm, ⟨73, _⟩ => ⟨S12, .i32⟩
  | .hbm, ⟨74, _⟩ => ⟨S12, .i32⟩
  | .hbm, ⟨75, _⟩ => ⟨S_, .i32⟩
  | .hbm, ⟨76, _⟩ => ⟨S12, .i32⟩
  | .hbm, ⟨77, _⟩ => ⟨S12, .i1⟩
  | .hbm, ⟨78, _⟩ => ⟨S_, .i32⟩
  | .hbm, ⟨79, _⟩ => ⟨S12, .i32⟩
  | .hbm, ⟨80, _⟩ => ⟨S12, .i32⟩
  | .hbm, ⟨81, _⟩ => ⟨S12, .i32⟩
  | .hbm, ⟨82, _⟩ => ⟨S12x1, .i32⟩
  | .hbm, ⟨83, _⟩ => ⟨S12x1, .i32⟩
  | .hbm, ⟨84, _⟩ => ⟨S12x2, .i32⟩
  | .hbm, ⟨85, _⟩ => ⟨S128x8x2x12, .f32⟩
  | .hbm, ⟨86, _⟩ => ⟨S128x8x12x2, .f32⟩
  | .hbm, ⟨87, _⟩ => ⟨S_, .f32⟩
  | .hbm, ⟨88, _⟩ => ⟨S128x8x2, .f32⟩
  | .hbm, ⟨89, _⟩ => ⟨S_, .f32⟩
  | .hbm, ⟨90, _⟩ => ⟨S128x8x2, .f32⟩
  | .hbm, ⟨91, _⟩ => ⟨S128x8x2, .f32⟩
  | .hbm, ⟨92, _⟩ => ⟨S128x8x2, .f32⟩
  | .hbm, ⟨93, _⟩ => ⟨S_, .f32⟩
  | .hbm, ⟨94, _⟩ => ⟨S128x8x2, .f32⟩
  | .hbm, ⟨95, _⟩ => ⟨S128x8x2, .f32⟩
  | .hbm, ⟨96, _⟩ => ⟨S128x8x2, .f32⟩
  | .hbm, ⟨97, _⟩ => ⟨S128x8x2, .f32⟩
  | .hbm, ⟨98, _⟩ => ⟨S128x8x2, .f32⟩
  | .hbm, ⟨99, _⟩ => ⟨S_, .f32⟩
  | .hbm, ⟨100, _⟩ => ⟨S_, .f32⟩
  | .hbm, ⟨101, _⟩ => ⟨S128x8x2, .f32⟩
  | .hbm, ⟨102, _⟩ => ⟨S128x1x2, .f32⟩
  | .hbm, ⟨103, _⟩ => ⟨S_, .f32⟩
  | .hbm, ⟨104, _⟩ => ⟨S128x1x2, .f32⟩
  | .hbm, ⟨105, _⟩ => ⟨S128x7x2, .f32⟩
  | .hbm, ⟨106, _⟩ => ⟨S128x8x2, .f32⟩
  | .hbm, ⟨107, _⟩ => ⟨S128x8x2x1, .f32⟩
  | .hbm, ⟨108, _⟩ => ⟨S128x8x2x1, .f32⟩
  | .hbm, ⟨109, _⟩ => ⟨S128x8x2x1, .f32⟩
  | .hbm, ⟨110, _⟩ => ⟨S128x8x2x1, .f32⟩
  | .hbm, ⟨111, _⟩ => ⟨S128x8x2x1, .f32⟩
  | .hbm, ⟨112, _⟩ => ⟨S128x8x2x1, .f32⟩
  | .hbm, ⟨113, _⟩ => ⟨S128x8x2x6, .f32⟩
  | .hbm, ⟨114, _⟩ => ⟨S1024x12, .f32⟩
  | _, _ => ⟨S128x8x13x512x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_v7 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_cst_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_1 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_2 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_v27 : Ref sig .tc := ⟨.hbm, 64, rfl⟩
abbrev main_v28 : Ref sig .tc := ⟨.hbm, 65, rfl⟩
abbrev main_call2_v0 : Ref sig .tc := ⟨.hbm, 66, rfl⟩
abbrev main_call2_v1 : Ref sig .tc := ⟨.hbm, 67, rfl⟩
abbrev main_call2_c : Ref sig .tc := ⟨.hbm, 68, rfl⟩
abbrev main_call2_v2 : Ref sig .tc := ⟨.hbm, 69, rfl⟩
abbrev main_call2_v3 : Ref sig .tc := ⟨.hbm, 70, rfl⟩
abbrev main_call2_c_0 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_c_1 : Ref sig .tc := ⟨.hbm, 75, rfl⟩
abbrev main_call2_v7 : Ref sig .tc := ⟨.hbm, 76, rfl⟩
abbrev main_call2_v8 : Ref sig .tc := ⟨.hbm, 77, rfl⟩
abbrev main_call2_c_2 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_v29 : Ref sig .tc := ⟨.hbm, 85, rfl⟩
abbrev main_v30 : Ref sig .tc := ⟨.hbm, 86, rfl⟩
abbrev main_cst_3 : Ref sig .tc := ⟨.hbm, 87, rfl⟩
abbrev main_v31 : Ref sig .tc := ⟨.hbm, 88, rfl⟩
abbrev main_cst_4 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_cst_5 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_call3_call0_cst : Ref sig .tc := ⟨.hbm, 99, rfl⟩
abbrev main_call3_call0_v0 : Ref sig .tc := ⟨.hbm, 100, rfl⟩
abbrev main_v40 : Ref sig .tc := ⟨.hbm, 101, rfl⟩
abbrev main_v41 : Ref sig .tc := ⟨.hbm, 102, rfl⟩
abbrev main_cst_6 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩

abbrev nD : Nat := 1
abbrev τ : Topo := Topo.v7x

variable {F : FTy → Type} [FloatOps F]
-- ==== Proof.Spec.lean ====
/- What both programs compute, as extended real numbers at one path, step and channel: the estimators' logits, the
   softplus of a number, the flows in and out of a state, the initial flow, the log-ratio of a step and the sum of the
   log-ratios of the steps before it, and the six entries of a result row. -/
module

public import Idealize.ShloMosaic.Lib.Pointwise

@[expose] public section

noncomputable section

open Idealize.ShloMosaic

namespace Cert.Flow

/-- Edge features by path, step, slot, feature and channel. -/
abbrev Edges : Type := (⟨5, ![128, 8, 13, 512, 2]⟩ : Shape).Idx → EReal
/-- One number for every path, step and channel. -/
abbrev Steps : Type := (⟨3, ![128, 8, 2]⟩ : Shape).Idx → EReal
/-- The estimators' weights by channel, feature and action. -/
abbrev Weights : Type := (⟨3, ![2, 512, 12]⟩ : Shape).Idx → EReal
/-- The estimators' biases by channel and action. -/
abbrev Biases : Type := (⟨2, ![2, 12]⟩ : Shape).Idx → EReal
/-- One number for every channel. -/
abbrev Channels : Type := (⟨1, ![2]⟩ : Shape).Idx → EReal

/-- The softplus of a number. -/
def softplus (y : EReal) : EReal := max y 0 + Ideal.log1p (Ideal.exp (-max y (-y)))

/-- The logit of action `a` on the edge in slot `s`. -/
def logit (x : Edges) (w : Weights) (b : Biases) (n : Fin 128) (p : Fin 8) (s : Fin 13) (a : Fin 12) (c : Fin 2) :
    EReal :=
  ∑ e : Fin 512, x (ix5 n p s e c) * w (ix3 c e a) + b (ix2 c a)

/-- The flow out of a state: slot 0, every action. -/
def flowOut (x : Edges) (w : Weights) (b : Biases) (n : Fin 128) (p : Fin 8) (c : Fin 2) : EReal :=
  ∑ a : Fin 12, softplus (logit x w b n p 0 a c)

/-- The flow into a state: action `a` on the edge in slot `1 + a`. -/
def flowIn (x : Edges) (w : Weights) (b : Biases) (n : Fin 128) (p : Fin 8) (c : Fin 2) : EReal :=
  ∑ a : Fin 12, softplus (logit x w b n p ⟨1 + a.val, by omega⟩ a c)

/-- The offset under the logarithms. -/
def offset : EReal := Ideal.ofBits .f32 0x1E3CE508#32

/-- The log-ratio of a step with flow out `f` and reward `r`. -/
def ratio (f r : EReal) : EReal := Ideal.log (offset + f) - Ideal.log (offset + f + r)

/-- The log-ratio at a path, step and channel. -/
def stepRatio (x : Edges) (w : Weights) (b : Biases) (r : Steps) (n : Fin 128) (p : Fin 8) (c : Fin 2) : EReal :=
  ratio (flowOut x w b n p c) (r (ix3 n p c))

/-- The sum of `f` over the steps before `p`. -/
def before (f : Fin 8 → EReal) (p : Fin 8) : EReal := ∑ q : Fin 8, if q.val < p.val then f q else 0

/-- Entry `s` of the six that a result row holds for a path, step and channel. -/
def entry (fwd bwd : Edges) (pif rew : Steps) (w : Weights) (b : Biases) (i : Channels)
    (n : Fin 128) (p : Fin 8) (c : Fin 2) (s : ℕ) : EReal :=
  if s = 0 then flowIn bwd w b n p c
  else if s = 1 then flowOut fwd w b n p c
  else if s = 2 then rew (ix3 n p c)
  else if s = 3 then pif (ix3 n p c) * Ideal.exp (i (ix1 c))
  else if s = 4 then before (fun q => stepRatio fwd w b rew n q c) p
  else rew (ix3 n p c)

/-- The result: row `8 n + p`, column `6 c + s`. -/
def result (fwd bwd : Edges) (pif rew : Steps) (w : Weights) (b : Biases) (i : Channels) :
    (⟨2, ![1024, 12]⟩ : Shape).Idx → EReal :=
  fun j => entry fwd bwd pif rew w b i ⟨(j 0).val / 8, by have h : (j 0).val < 1024 := (j 0).isLt; omega⟩
    ⟨(j 0).val % 8, by omega⟩ ⟨(j 1).val / 6, by have h : (j 1).val < 12 := (j 1).isLt; omega⟩ ((j 1).val % 6)

end Cert.Flow

end
-- ==== Proof.Sums.lean ====
/- Sums that a table of zeros and ones cuts down: the kernel selects channels, rows, columns and earlier steps by
   multiplying with such tables, and what each sum leaves is a shorter sum or a single term. -/
module

public import proofs.«01_k».proof.Proof.Spec

@[expose] public section

noncomputable section

open Idealize.ShloMosaic

namespace Cert.Flow

/-- The table entry for a condition: 1 where it holds, 0 elsewhere. -/
def bit (p : Prop) [Decidable p] : EReal := if p then 1 else 0

/-- Where the condition holds, a product with its table entry is the other factor. -/
theorem mul_bit_pos {p : Prop} [Decidable p] (h : p) (y : EReal) : y * bit p = y := by rw [bit, if_pos h, mul_one]

/-- Where it fails, the product is 0. -/
theorem mul_bit_neg {p : Prop} [Decidable p] (h : ¬ p) (y : EReal) : y * bit p = 0 := by rw [bit, if_neg h, mul_zero]

/-- Where the condition holds, its table entry times a number is the number. -/
theorem bit_mul_pos {p : Prop} [Decidable p] (h : p) (y : EReal) : bit p * y = y := by rw [bit, if_pos h, one_mul]

/-- Where it fails, the product is 0. -/
theorem bit_mul_neg {p : Prop} [Decidable p] (h : ¬ p) (y : EReal) : bit p * y = 0 := by rw [bit, if_neg h, zero_mul]

/-- The feature that a lane of a packed edge holds. -/
def feature (κ : Fin 1024) : Fin 512 := ⟨κ.val / 256 * 128 + κ.val % 128, by omega⟩

/-- The channel that a lane of a packed edge holds. -/
def channel (κ : Fin 1024) : Fin 2 := ⟨κ.val / 128 % 2, by omega⟩

/-- Over the lanes of a packed edge, weights cut down to one channel leave the sum over that channel's features. -/
theorem sum_lanes (x w : Fin 512 → Fin 2 → EReal) (c : Fin 2) :
    ∑ κ : Fin 1024, x (feature κ) (channel κ) * (w (feature κ) (channel κ) * bit (κ.val / 128 % 2 = c.val))
      = ∑ e : Fin 512, x e c * w e c := by
  symm
  refine Fintype.sum_of_injective
    (fun e : Fin 512 => (⟨e.val / 128 * 256 + c.val * 128 + e.val % 128, by omega⟩ : Fin 1024)) ?_ _ _ ?_ ?_
  · intro e e' h
    have h' := congrArg Fin.val h
    simp only at h'
    exact Fin.ext (by omega)
  · intro κ hκ
    by_cases hc : κ.val / 128 % 2 = c.val
    · exact absurd ⟨feature κ, Fin.ext (by simp only [feature]; omega)⟩ hκ
    · rw [mul_bit_neg hc, mul_zero]
  · intro e
    have h₁ : feature ⟨e.val / 128 * 256 + c.val * 128 + e.val % 128, by omega⟩ = e :=
      Fin.ext (by simp only [feature]; omega)
    have h₂ : channel ⟨e.val / 128 * 256 + c.val * 128 + e.val % 128, by omega⟩ = c :=
      Fin.ext (by simp only [channel]; omega)
    simp only [h₁, h₂]
    rw [mul_bit_pos (by omega)]

/-- Over the rows of a block, the segment table and the diagonal table leave the one row of group `g` whose slot is 1
    above the column's action. -/
theorem sum_rows (f : Fin 3328 → EReal) (g : Fin 256) (j : Fin 24) :
    ∑ r : Fin 3328, bit (r.val / 13 = g.val) * (f r * bit (1 ≤ r.val % 13 ∧ j.val / 2 = r.val % 13 - 1))
      = f ⟨13 * g.val + (1 + j.val / 2), by omega⟩ := by
  rw [Fintype.sum_eq_single (⟨13 * g.val + (1 + j.val / 2), by omega⟩ : Fin 3328)]
  · rw [mul_bit_pos (by simp only; omega), bit_mul_pos (by simp only; omega)]
  · intro r hr
    by_cases h₁ : r.val / 13 = g.val
    · rw [mul_bit_neg fun h₂ => hr (Fin.ext (by simp only; omega)), mul_zero]
    · rw [bit_mul_neg h₁]

/-- Over the 24 columns, the column table leaves a channel's 12 actions. -/
theorem sum_columns (f : Fin 24 → EReal) (c : Fin 2) :
    ∑ j : Fin 24, f j * bit (j.val % 2 = c.val) = ∑ a : Fin 12, f ⟨2 * a.val + c.val, by omega⟩ := by
  symm
  refine Fintype.sum_of_injective (fun a : Fin 12 => (⟨2 * a.val + c.val, by omega⟩ : Fin 24)) ?_ _ _ ?_ ?_
  · intro a a' h
    have h' := congrArg Fin.val h
    simp only at h'
    exact Fin.ext (by omega)
  · intro j hj
    by_cases hc : j.val % 2 = c.val
    · exact absurd ⟨⟨j.val / 2, by omega⟩, Fin.ext (by simp only; omega)⟩ hj
    · rw [mul_bit_neg hc]
  · intro a
    rw [mul_bit_pos (by simp only; omega)]

/-- Over the 256 groups of a block, the step table leaves the earlier steps of the same path. -/
theorem sum_steps (f : Fin 256 → EReal) (g : Fin 256) :
    ∑ h : Fin 256, bit (g.val / 8 = h.val / 8 ∧ h.val % 8 < g.val % 8) * f h
      = before (fun q => f ⟨8 * (g.val / 8) + q.val, by omega⟩) ⟨g.val % 8, by omega⟩ := by
  unfold before
  symm
  refine Fintype.sum_of_injective (fun q : Fin 8 => (⟨8 * (g.val / 8) + q.val, by omega⟩ : Fin 256)) ?_ _ _ ?_ ?_
  · intro q q' h
    have h' := congrArg Fin.val h
    simp only at h'
    exact Fin.ext (by omega)
  · intro h hh
    by_cases hc : g.val / 8 = h.val / 8
    · exact absurd ⟨⟨h.val % 8, by omega⟩, Fin.ext (by simp only; omega)⟩ hh
    · rw [bit_mul_neg fun h' => hc h'.1]
  · intro q
    by_cases hq : q.val < g.val % 8
    · rw [bit_mul_pos (by simp only; omega)]
      exact if_pos hq
    · rw [bit_mul_neg (by simp only; omega)]
      exact if_neg hq

/-- Over the 12 stacked columns, the permutation table leaves one. -/
theorem sum_perm (f : Fin 12 → EReal) (k : Fin 12) :
    ∑ x : Fin 12, f x * bit (x.val % 2 * 6 + x.val / 2 = k.val) = f ⟨k.val % 6 * 2 + k.val / 6, by omega⟩ := by
  rw [Fintype.sum_eq_single (⟨k.val % 6 * 2 + k.val / 6, by omega⟩ : Fin 12)]
  · rw [mul_bit_pos (by simp only; omega)]
  · intro x hx
    rw [mul_bit_neg fun h => hx (Fin.ext (by simp only; omega))]

end Cert.Flow

end
-- ==== Proof.Tables.lean ====
/- The kernel's tables of zeros and ones at an index: the four that the host computes from positions by integer
   divisions and comparisons, and the two that it holds as constants. -/
module

public import proofs.«01_k».proof.Proof.Gen.KernelIdeal.Value
public import Idealize.ShloMosaic.Lib.Pipeline.ValueKit
public import Idealize.ShloMosaic.Lib.Routing.Words
public import Idealize.ShloMosaic.Lib.WordCmp
public import proofs.«01_k».proof.Proof.Sums

@[expose] public section

set_option maxRecDepth 16384

noncomputable section

open Idealize.ShloMosaic Idealize.ShloMosaic.TcCoe Idealize.SL.Sem
open Idealize.ShloMosaic.Routing (remsi_word divsi_word ofNat32_sub)
open Idealize.ShloMosaic.WordCmp (cmpi_eq_ofNat cmpi_sge_ofNat cmpi_slt_ofNat andi_ofBool cmpi_eq_eq)
open Idealize.ShloMosaic.Ideal
open Cert.Flow (bit)

namespace Cert.KernelIdeal.Flow

open Cert.KernelIdeal Cert.KernelIdeal.Gen

/-- A truth value as a number. -/
theorem ofBool_at (p : Prop) [Decidable p] :
    (FloatOps.uitofp .f32 (BitVec.ofBool (decide p)) : Ideal .f32) = bit p := by
  show ((((BitVec.ofBool (decide p)).toNat : ℝ)) : EReal) = bit p
  unfold bit
  by_cases h : p <;> simp [h]

/-- The pattern of 1 or 0 as a number. -/
theorem ofBits_ite (p : Prop) [Decidable p] :
    Ideal.ofBits .f32 (if p then 0x3F800000#32 else 0x00000000#32) = bit p := by
  unfold bit
  by_cases h : p <;> simp only [h, if_true, if_false]
  · exact ofBits_one_f32
  · exact ofBits_zero_f32

/-- Words of two positions are equal exactly when the positions are. -/
theorem eq_word {a b : ℕ} (ha : a < 2 ^ 31) (hb : b < 2 ^ 31) :
    IntOp.cmpi .eq (BitVec.ofNat 32 a) (BitVec.ofNat 32 b) = BitVec.ofBool (decide (a = b)) :=
  cmpi_eq_ofNat (by omega) (by omega)

/-- The channel table: lane `s` belongs to the channel of column `r`. -/
theorem channel_word (r s : ℕ) (hr : r < 24) (hs : s < 1024) :
    (FloatOps.uitofp .f32 (IntOp.cmpi .eq
        (IntOp.remsi .host (IntOp.divsi .host (BitVec.ofNat 32 s) 128#32) 2#32)
        (IntOp.remsi .host (BitVec.ofNat 32 r) 2#32)) : Ideal .f32) = bit (s / 128 % 2 = r % 2) := by
  rw [divsi_word .host (by omega) (by omega) (by omega), remsi_word .host (by omega) (by omega) (by omega),
    remsi_word .host (by omega) (by omega) (by omega), eq_word (by omega) (by omega)]
  exact ofBool_at _

variable (m : (ℓ : Loc nD τ sig) → Buf (Elt Ideal) ℓ)

/-- The diagonal table: row `r` holds slot `1 + a` of column `2 a + c`'s action. -/
theorem diagonal_at (c : Dev nD) (r : Fin 3328) (j : Fin 24) :
    (V m c main_v52 (ix2 r j) : EReal) = bit (1 ≤ r.val % 13 ∧ j.val / 2 = r.val % 13 - 1) := by
  entry_read
  pointwise
  rw [remsi_word .host (by omega) (by omega) (by omega), divsi_word .host (by omega) (by omega) (by omega),
    show (1#32 : BitVec 32) = BitVec.ofNat 32 1 from rfl, cmpi_sge_ofNat (by omega) (by omega)]
  by_cases h : 1 ≤ r.val % 13
  · rw [show IntOp.subi (BitVec.ofNat 32 (r.val % 13)) (BitVec.ofNat 32 1) = BitVec.ofNat 32 (r.val % 13 - 1)
      from ofNat32_sub h, eq_word (by omega) (by omega), andi_ofBool, ← Bool.decide_and]
    exact ofBool_at _
  · rw [cmpi_eq_eq, andi_ofBool, ← Bool.decide_and]
    refine (ofBool_at _).trans ?_
    unfold bit
    rw [if_neg fun h' => h h'.1, if_neg fun h' => h h'.1]

/-- The segment table: row `r` of a block belongs to group `g`. -/
theorem segment_at (c : Dev nD) (g : Fin 256) (r : Fin 3328) :
    (V m c main_v61 (ix2 g r) : EReal) = bit (r.val / 13 = g.val) := by
  entry_read
  pointwise
  rw [divsi_word .host (by omega) (by omega) (by omega), eq_word (by omega) (by omega)]
  exact ofBool_at _

/-- The step table: group `h` is an earlier step on the path of group `g`. -/
theorem steps_at (c : Dev nD) (g h : Fin 256) :
    (V m c main_v77 (ix2 g h) : EReal) = bit (g.val / 8 = h.val / 8 ∧ h.val % 8 < g.val % 8) := by
  entry_read
  pointwise
  rw [divsi_word .host (by omega) (by omega) (by omega), divsi_word .host (by omega) (by omega) (by omega),
    remsi_word .host (by omega) (by omega) (by omega), remsi_word .host (by omega) (by omega) (by omega),
    eq_word (by omega) (by omega), cmpi_slt_ofNat (by omega) (by omega), andi_ofBool, ← Bool.decide_and]
  exact ofBool_at _

/-- The patterns of the column table. -/
theorem columns_bits : ∀ (j : Fin 24) (k : Fin 2), lit0 (S24x2.rowMajor (ix2 j k))
    = if j.val % 2 = k.val then 0x3F800000#32 else 0x00000000#32 := by
  decide +kernel

/-- The patterns of the permutation table. -/
theorem perm_bits : ∀ x k : Fin 12, lit1 (S12x12.rowMajor (ix2 x k))
    = if x.val % 2 * 6 + x.val / 2 = k.val then 0x3F800000#32 else 0x00000000#32 := by
  decide +kernel

/-- The column table: column `j` belongs to channel `k`. -/
theorem columns_at (c : Dev nD) (j : Fin 24) (k : Fin 2) :
    (V m c main_cst (ix2 j k) : EReal) = bit (j.val % 2 = k.val) := by
  entry_read
  exact (congrArg (Ideal.ofBits .f32) (columns_bits j k)).trans (ofBits_ite _)

/-- The permutation table: stacked column `x` goes to result column `k`. -/
theorem perm_at (c : Dev nD) (x k : Fin 12) :
    (V m c main_cst_0 (ix2 x k) : EReal) = bit (x.val % 2 * 6 + x.val / 2 = k.val) := by
  entry_read
  exact (congrArg (Ideal.ofBits .f32) (perm_bits x k)).trans (ofBits_ite _)

end Cert.KernelIdeal.Flow

end
-- ==== Proof.Arrays.lean ====
/- The arrays that the kernel's host lines lay out for its windows, at an index: the packed edges, the packed weights
   with the bias row under them, and the six columns of rewards, path flows and initial flows. -/
module

public import proofs.«01_k».proof.Proof.Tables

@[expose] public section

set_option maxRecDepth 16384

noncomputable section

open Idealize.ShloMosaic Idealize.ShloMosaic.TcCoe Idealize.SL.Sem
open Cert.Flow (bit)

namespace Cert.KernelIdeal.Flow

open Cert.KernelIdeal Cert.KernelIdeal.Gen

variable (m : (ℓ : Loc nD τ sig) → Buf (Elt Ideal) ℓ)

/-- The backward edges as launched. -/
abbrev bwd (c : Dev nD) : Cert.Flow.Edges := m ((c : Thread nD τ).loc main_arg1)
/-- The forward edges as launched. -/
abbrev fwd (c : Dev nD) : Cert.Flow.Edges := m ((c : Thread nD τ).loc main_arg0)
/-- The path flows as launched. -/
abbrev pif (c : Dev nD) : Cert.Flow.Steps := m ((c : Thread nD τ).loc main_arg2)
/-- The rewards as launched. -/
abbrev rew (c : Dev nD) : Cert.Flow.Steps := m ((c : Thread nD τ).loc main_arg3)
/-- The weights as launched. -/
abbrev wts (c : Dev nD) : Cert.Flow.Weights := m ((c : Thread nD τ).loc main_arg4)
/-- The biases as launched. -/
abbrev bia (c : Dev nD) : Cert.Flow.Biases := m ((c : Thread nD τ).loc main_arg5)
/-- The initial flows as launched. -/
abbrev ini (c : Dev nD) : Cert.Flow.Channels := m ((c : Thread nD τ).loc main_arg6)

/-- The packed backward edges: row by path, step and slot; sublane and lane by feature and channel. -/
theorem back_at (c : Dev nD) (r : Fin 13312) (s : Fin 8) (l : Fin 128) :
    (V m c main_v2 (ix3 r s l) : EReal) = bwd m c (ix5 ⟨r.val / 104, by omega⟩ ⟨r.val / 13 % 8, by omega⟩
      ⟨r.val % 13, by omega⟩ ⟨s.val / 2 * 128 + l.val, by omega⟩ ⟨s.val % 2, by omega⟩) := by
  entry_read
  pointwise

/-- The packed forward edges. -/
theorem forward_at (c : Dev nD) (n : Fin 128) (p : Fin 8) (s : Fin 104) (l : Fin 128) :
    (V m c main_v5 (ix4 n p s l) : EReal) = fwd m c (ix5 n p ⟨s.val / 8, by omega⟩
      ⟨s.val / 2 % 4 * 128 + l.val, by omega⟩ ⟨s.val % 2, by omega⟩) := by
  entry_read
  pointwise

/-- The weights by column and lane, cut down to the column's channel. -/
theorem masked_at (c : Dev nD) (j : Fin 24) (κ : Fin 1024) :
    (V m c main_v25 (ix2 j κ) : EReal)
      = wts m c (ix3 ⟨κ.val / 128 % 2, by omega⟩ ⟨κ.val / 256 * 128 + κ.val % 128, by omega⟩ ⟨j.val / 2, by omega⟩)
        * bit (κ.val / 128 % 2 = j.val % 2) := by
  entry_read
  pointwise
  refine congrArg (fun b : EReal => wts m c (ix3 ⟨κ.val / 128 % 2, by omega⟩
    ⟨κ.val / 256 * 128 + κ.val % 128, by omega⟩ ⟨j.val / 2, by omega⟩) * b) ?_
  exact channel_word j.val κ.val j.isLt κ.isLt

/-- The biases in one row. -/
theorem biasRow_at (c : Dev nD) (j : Fin 24) :
    (V m c main_v27 (ix2 0 j) : EReal) = bia m c (ix2 ⟨j.val % 2, by omega⟩ ⟨j.val / 2, by omega⟩) := by
  entry_read
  pointwise

/-- The bias row is padded to the width of the weights. -/
theorem padded_eq (c : Dev nD) :
    V m c main_v29 = concatenate S1x1024 1 [⟨S1x24, V m c main_v27⟩, ⟨S1x1000, V m c main_v28⟩]
      concatenates_S1x24_S1x1000_S1x1024_d1 := by
  simp only [V, hostOps0, StableHlo.after_cons, StableHlo.after_nil]
  after_results_loop
  rfl

/-- The packed weights lie over the bias row. -/
theorem packed_eq (c : Dev nD) :
    V m c main_v30 = concatenate S25x1024 0 [⟨S24x1024, V m c main_v25⟩, ⟨S1x1024, V m c main_v29⟩]
      concatenates_S24x1024_S1x1024_S25x1024_d0 := by
  simp only [V, hostOps0, StableHlo.after_cons, StableHlo.after_nil]
  after_results_loop
  rfl

section
variable {τ' : Topo} {sig' : RefSig} {Val : EltTy → Type} {x a b y : Ref sig' .tc}

/-- What an operation on three named operands leaves in its result, each operand's contents at its own name. -/
theorem three_result
    (f : ((k : Fin 3) → ((![x, a, b] : Fin 3 → Ref sig' .tc) k).ty.Contents Val) → y.ty.Contents Val) (hxs hy)
    (F : Valuation τ' sig' Val) :
    (StableHlo.nary (τ := τ') ![x, a, b] y f hxs hy).result F (no_index (Proc.devRef .tc y))
      = f (Fin.cons (F (Proc.devRef .tc x)) (Fin.cons (F (Proc.devRef .tc a)) (Fin.cons (F (Proc.devRef .tc b))
          (fun i => i.elim0)))) := by
  rw [StableHlo.nary_result]
  congr 1
  funext k
  fin_cases k <;> rfl
end

/-- Three arrays of two columns, side by side. -/
def beside (x y z : FVec Ideal S1024x2 .f32) : FVec Ideal S1024x6 .f32 :=
  concatenate S1024x6 1 [⟨S1024x2, x⟩, ⟨S1024x2, y⟩, ⟨S1024x2, z⟩] concatenates_S1024x2_S1024x2_S1024x2_S1024x6_d1

set_option maxHeartbeats 1000000 in
/-- The rewards, path flows and initial flows lie side by side. -/
theorem sides_eq (c : Dev nD) :
    V m c main_v34 = beside (V m c main_v31) (V m c main_v32) (V m c main_v33) := by
  simp (disch := decide) only [V, hostOps0, StableHlo.after_cons, StableHlo.after_nil, three_result,
    StableHlo.nullary_result_ne', StableHlo.unary_result_ne', StableHlo.binary_result_ne',
    StableHlo.reshape_result_ne', StableHlo.nary_result_ne', StableHlo.reshape_result', StableHlo.unary_result']
  after_results_loop
  rfl

/-- Rows 0 to 23 of the packed weights. -/
theorem packed_at (c : Dev nD) (j : Fin 24) (κ : Fin 1024) :
    (V m c main_v30 (ix2 ⟨j.val, by omega⟩ κ) : EReal)
      = wts m c (ix3 ⟨κ.val / 128 % 2, by omega⟩ ⟨κ.val / 256 * 128 + κ.val % 128, by omega⟩ ⟨j.val / 2, by omega⟩)
        * bit (κ.val / 128 % 2 = j.val % 2) := by
  rw [← masked_at, packed_eq]
  generalize V m c main_v25 = x
  generalize V m c main_v29 = y
  pointwise

/-- Row 24 of the packed weights: the biases. -/
theorem bias_at (c : Dev nD) (j : Fin 24) :
    (V m c main_v30 (ix2 24 ⟨j.val, by omega⟩) : EReal) = bia m c (ix2 ⟨j.val % 2, by omega⟩ ⟨j.val / 2, by omega⟩) := by
  rw [← biasRow_at, packed_eq, padded_eq]
  generalize V m c main_v25 = x
  generalize V m c main_v27 = y
  generalize V m c main_v28 = z
  pointwise

/-- The rewards by row. -/
theorem rewards_at (c : Dev nD) (r : Fin 1024) (k : Fin 2) :
    (V m c main_v34 (ix2 r ⟨k.val, by omega⟩) : EReal) = rew m c (ix3 ⟨r.val / 8, by omega⟩ ⟨r.val % 8, by omega⟩ k) := by
  have e : (V m c main_v31 (ix2 r k) : EReal) = rew m c (ix3 ⟨r.val / 8, by omega⟩ ⟨r.val % 8, by omega⟩ k) := by
    entry_read
    pointwise
  rw [← e, sides_eq]
  generalize V m c main_v31 = x
  generalize V m c main_v32 = y
  generalize V m c main_v33 = z
  pointwise [beside]

/-- The path flows by row. -/
theorem pathFlows_at (c : Dev nD) (r : Fin 1024) (k : Fin 2) :
    (V m c main_v34 (ix2 r ⟨2 + k.val, by omega⟩) : EReal)
      = pif m c (ix3 ⟨r.val / 8, by omega⟩ ⟨r.val % 8, by omega⟩ k) := by
  have e : (V m c main_v32 (ix2 r k) : EReal) = pif m c (ix3 ⟨r.val / 8, by omega⟩ ⟨r.val % 8, by omega⟩ k) := by
    entry_read
    pointwise
  rw [← e, sides_eq]
  generalize V m c main_v31 = x
  generalize V m c main_v32 = y
  generalize V m c main_v33 = z
  pointwise [beside]

/-- The initial flows, the same in every row. -/
theorem initial_at (c : Dev nD) (r : Fin 1024) (k : Fin 2) :
    (V m c main_v34 (ix2 r ⟨4 + k.val, by omega⟩) : EReal) = ini m c (ix1 k) := by
  have e : (V m c main_v33 (ix2 r k) : EReal) = ini m c (ix1 k) := by
    entry_read
    pointwise
  rw [← e, sides_eq]
  generalize V m c main_v31 = x
  generalize V m c main_v32 = y
  generalize V m c main_v33 = z
  pointwise [beside]
  refine (dif_neg (by omega)).trans ((dif_neg (by omega)).trans ?_)
  exact congrArg (fun q : Fin 2 => z (ix2 r q)) (Fin.ext (by simp only; omega))

end Cert.KernelIdeal.Flow

end
-- ==== Proof.Windows.lean ====
/- What each window's block holds at a grid point, from the arrays the kernel's host code prepares. -/
module

public import proofs.«01_k».proof.Proof.Gen.KernelIdeal.Value
public import Idealize.ShloMosaic.Lib.Pipeline.ValueKit
public import proofs.«01_k».proof.Proof.Arrays
public import proofs.«01_k».proof.Proof.Tables

@[expose] public section

set_option maxRecDepth 16384

noncomputable section

open Idealize.ShloMosaic
open Cert.Flow (bit)

namespace Cert.KernelIdeal.Flow

open Cert.KernelIdeal Cert.KernelIdeal.Gen

variable (m : (ℓ : Loc nD τ sig) → Buf (Elt Ideal) ℓ)

/-- Where each window's block sits at a grid point. -/
theorem places : ∀ t : Fin cfg0.N, win0_0.index t = ![t.val, 0, 0] ∧ win0_1.index t = ![t.val, 0, 0, 0]
    ∧ win0_2.index t = ![0, 0] ∧ win0_3.index t = ![t.val, 0] ∧ win0_4.index t = ![0, 0]
    ∧ win0_5.index t = ![0, 0] ∧ win0_6.index t = ![0, 0] ∧ win0_7.index t = ![0, 0] ∧ win0_8.index t = ![0, 0]
    ∧ win0_9.index t = ![t.val, 0] := (by decide +kernel : ∀ t : Fin grid0.N, _)

/-- Equal coordinates make equal edge indices. -/
theorem edge_ext {n n' : Fin 128} {p p' : Fin 8} {s s' : Fin 13} {e e' : Fin 512} {q q' : Fin 2}
    (hn : n.val = n'.val) (hp : p.val = p'.val) (hs : s.val = s'.val) (he : e.val = e'.val) (hq : q.val = q'.val) :
    ix5 n p s e q = ix5 n' p' s' e' q' := by
  rw [Fin.ext hn, Fin.ext hp, Fin.ext hs, Fin.ext he, Fin.ext hq]

/-- Equal coordinates make equal step indices. -/
theorem step_ext {n n' : Fin 128} {p p' : Fin 8} {q : Fin 2} (hn : n.val = n'.val) (hp : p.val = p'.val) :
    ix3 n p q = ix3 n' p' q := by
  rw [Fin.ext hn, Fin.ext hp]

/-- The incoming edges of a block. -/
theorem back_block (c : Dev nD) (t : Fin cfg0.N) (i : Fin 4) (hi : i.val = t.val) (r : Fin 3328) (s : Fin 8)
    (l : Fin 128) : (iblk m c 0 t : FVec Ideal S3328x8x128 .f32) (ix3 r s l)
      = bwd m c (ix5 ⟨32 * i.val + r.val / 104, by omega⟩ ⟨r.val / 13 % 8, by omega⟩ ⟨r.val % 13, by omega⟩
          ⟨s.val / 2 * 128 + l.val, by omega⟩ ⟨s.val % 2, by omega⟩) := by
  refine Eq.trans ?_ ((back_at m c ⟨3328 * i.val + r.val, by omega⟩ s l).trans (congrArg (bwd m c) ?_))
  · blk_simp [iblk]
    blk_ext [places t]
  · apply edge_ext <;> simp only <;> omega

/-- The outgoing edges of a block. -/
theorem forward_block (c : Dev nD) (t : Fin cfg0.N) (i : Fin 4) (hi : i.val = t.val) (n : Fin 32) (p s : Fin 8)
    (l : Fin 128) : (iblk m c 1 t : FVec Ideal S32x8x8x128 .f32) (ix4 n p s l)
      = fwd m c (ix5 ⟨32 * i.val + n.val, by omega⟩ p 0 ⟨s.val / 2 * 128 + l.val, by omega⟩ ⟨s.val % 2, by omega⟩) := by
  refine Eq.trans ?_ ((forward_at m c ⟨32 * i.val + n.val, by omega⟩ p ⟨s.val, by omega⟩ l).trans
    (congrArg (fwd m c) ?_))
  · blk_simp [iblk]
    blk_ext [places t]
  · apply edge_ext <;> simp only [Fin.val_zero] <;> omega

/-- The rows of packed weights, of the array that holds them and the bias row. -/
theorem ld_weights (X : FVec Ideal S25x1024 .f32) (j : Fin 24) (κ : Fin 1024) :
    (View.ld (Val := Elt Ideal) (e' := .f32) X r0_0 : FVec Ideal S24x1024 .f32) (ix2 j κ) = X (ix2 ⟨j.val, by omega⟩ κ) := by
  refine (View.ld_apply _ _ _).trans (congrArg X ?_)
  blk_ext <;> refine (Rect.idx_unit_val _ _ _ _ _).trans ?_ <;> first | exact Nat.zero_add _ | rfl

/-- The bias row. -/
theorem ld_biases (X : FVec Ideal S25x1024 .f32) (j : Fin 24) :
    (View.ld (Val := Elt Ideal) (e' := .f32) X r0_1 : FVec Ideal S1x24 .f32) (ix2 0 j) = X (ix2 24 ⟨j.val, by omega⟩) := by
  refine (View.ld_apply _ _ _).trans (congrArg X ?_)
  blk_ext <;> refine (Rect.idx_unit_val _ _ _ _ _).trans ?_ <;> first | exact Nat.zero_add _ | rfl

/-- The first two columns of six. -/
theorem ld_first (X : FVec Ideal S256x6 .f32) (g : Fin 256) (k : Fin 2) :
    (View.ld (Val := Elt Ideal) (e' := .f32) X r0_7 : FVec Ideal S256x2 .f32) (ix2 g k) = X (ix2 g ⟨k.val, by omega⟩) := by
  refine (View.ld_apply _ _ _).trans (congrArg X ?_)
  blk_ext <;> refine (Rect.idx_unit_val _ _ _ _ _).trans ?_ <;> first | exact Nat.zero_add _ | rfl

/-- The middle two columns of six. -/
theorem ld_middle (X : FVec Ideal S256x6 .f32) (g : Fin 256) (k : Fin 2) :
    (View.ld (Val := Elt Ideal) (e' := .f32) X r0_8 : FVec Ideal S256x2 .f32) (ix2 g k) = X (ix2 g ⟨2 + k.val, by omega⟩) := by
  refine (View.ld_apply _ _ _).trans (congrArg X ?_)
  blk_ext <;> refine (Rect.idx_unit_val _ _ _ _ _).trans ?_ <;> first | exact Nat.zero_add _ | rfl

/-- The last two columns of six. -/
theorem ld_last (X : FVec Ideal S256x6 .f32) (g : Fin 256) (k : Fin 2) :
    (View.ld (Val := Elt Ideal) (e' := .f32) X r0_9 : FVec Ideal S256x2 .f32) (ix2 g k) = X (ix2 g ⟨4 + k.val, by omega⟩) := by
  refine (View.ld_apply _ _ _).trans (congrArg X ?_)
  blk_ext <;> refine (Rect.idx_unit_val _ _ _ _ _).trans ?_ <;> first | exact Nat.zero_add _ | rfl

/-- The packed weights and biases are whole at every grid point. -/
theorem packed_block (c : Dev nD) (t : Fin cfg0.N) (r : Fin 25) (κ : Fin 1024) :
    (iblk m c 2 t : FVec Ideal S25x1024 .f32) (ix2 r κ) = V m c main_v30 (ix2 r κ) := by
  blk_simp [iblk]
  blk_ext [places t]

/-- The step rows of a block. -/
theorem rows_block (c : Dev nD) (t : Fin cfg0.N) (i : Fin 4) (hi : i.val = t.val) (g : Fin 256) (k : Fin 6) :
    (iblk m c 3 t : FVec Ideal S256x6 .f32) (ix2 g k) = V m c main_v34 (ix2 ⟨256 * i.val + g.val, by omega⟩ k) := by
  blk_simp [iblk]
  blk_ext [places t]

/-- The diagonal table is whole at every grid point. -/
theorem diagonal_block (c : Dev nD) (t : Fin cfg0.N) (r : Fin 3328) (j : Fin 24) :
    (iblk m c 4 t : FVec Ideal S3328x24 .f32) (ix2 r j) = V m c main_v52 (ix2 r j) := by
  blk_simp [iblk]
  blk_ext [places t]

/-- The segment table is whole at every grid point. -/
theorem segment_block (c : Dev nD) (t : Fin cfg0.N) (g : Fin 256) (r : Fin 3328) :
    (iblk m c 5 t : FVec Ideal S256x3328 .f32) (ix2 g r) = V m c main_v61 (ix2 g r) := by
  blk_simp [iblk]
  blk_ext [places t]

/-- The column table is whole at every grid point. -/
theorem columns_block (c : Dev nD) (t : Fin cfg0.N) (j : Fin 24) (k : Fin 2) :
    (iblk m c 6 t : FVec Ideal S24x2 .f32) (ix2 j k) = V m c main_cst (ix2 j k) := by
  blk_simp [iblk]
  blk_ext [places t]

/-- The table of earlier steps is whole at every grid point. -/
theorem steps_block (c : Dev nD) (t : Fin cfg0.N) (g h : Fin 256) :
    (iblk m c 7 t : FVec Ideal S256x256 .f32) (ix2 g h) = V m c main_v77 (ix2 g h) := by
  blk_simp [iblk]
  blk_ext [places t]

/-- The permutation table is whole at every grid point. -/
theorem perm_block (c : Dev nD) (t : Fin cfg0.N) (x k : Fin 12) :
    (iblk m c 8 t : FVec Ideal S12x12 .f32) (ix2 x k) = V m c main_cst_0 (ix2 x k) := by
  blk_simp [iblk]
  blk_ext [places t]

end Cert.KernelIdeal.Flow

end
-- ==== Proof.Body.lean ====
/- What one block of the kernel computes, from the contents of its windows: each stage at an index. -/
module

public import proofs.«01_k».proof.Proof.Gen.KernelIdeal.Skeleton
public import proofs.«01_k».proof.Proof.Sums

@[expose] public section

set_option maxRecDepth 16384

noncomputable section

open Idealize.ShloMosaic
open Cert.Flow (bit logit softplus sum_lanes sum_rows sum_columns sum_steps sum_perm)

namespace Cert.KernelIdeal.Flow

open Cert.KernelIdeal Cert.KernelIdeal.Gen

/-- The kernel's spelling of the softplus: no number differs from itself, and the exponent is written as a difference. -/
theorem softplus_form (y : Ideal .f32) [Decidable (y ≠ y)] :
    (if y ≠ y then y else max y 0 + Ideal.log1p (Ideal.exp (0 - FloatOps.absf y))) = softplus y := by
  rw [if_neg fun h => h rfl, zero_sub]
  rfl

section
variable (x : Cert.Flow.Edges) (w : Cert.Flow.Weights) (b : Cert.Flow.Biases)
variable (v0 : FVec Ideal S24x1024 .f32) (v2 : FVec Ideal S1x24 .f32)

/-- The packed weights hold the weights, cut down to each column's channel. -/
def HoldsWeights : Prop := ∀ (j : Fin 24) (κ : Fin 1024), v0 (ix2 j κ)
  = w (ix3 ⟨κ.val / 128 % 2, by omega⟩ ⟨κ.val / 256 * 128 + κ.val % 128, by omega⟩ ⟨j.val / 2, by omega⟩)
    * bit (κ.val / 128 % 2 = j.val % 2)

/-- The bias row holds the biases. -/
def HoldsBiases : Prop := ∀ j : Fin 24, v2 (ix2 0 j) = b (ix2 ⟨j.val % 2, by omega⟩ ⟨j.val / 2, by omega⟩)

/-- A row of packed features against a column of packed weights is a logit. -/
theorem packed_logit (hw : HoldsWeights w v0) (hb : HoldsBiases b v2) (n : Fin 128) (p : Fin 8) (s : Fin 13)
    (j : Fin 24) (X : Fin 1024 → EReal)
    (hX : ∀ κ : Fin 1024, X κ = x (ix5 n p s ⟨κ.val / 256 * 128 + κ.val % 128, by omega⟩ ⟨κ.val / 128 % 2, by omega⟩)) :
    (∑ κ : Fin 1024, X κ * v0 (ix2 j κ)) + v2 (ix2 0 j)
      = logit x w b n p s ⟨j.val / 2, by omega⟩ ⟨j.val % 2, by omega⟩ := by
  unfold logit
  rw [hb j]
  refine congrArg (fun y : EReal => y + b (ix2 ⟨j.val % 2, by omega⟩ ⟨j.val / 2, by omega⟩)) ?_
  refine (Finset.sum_congr rfl fun κ _ => ?_).trans
    (sum_lanes (fun e c => x (ix5 n p s e c)) (fun e c => w (ix3 c e ⟨j.val / 2, by omega⟩)) ⟨j.val % 2, by omega⟩)
  rw [hX κ, hw j κ]
  rfl

/-- The flow into the states of a block: the segment, diagonal and column tables pick the edges. -/
theorem blockIn_at (hw : HoldsWeights w v0) (hb : HoldsBiases b v2) (i : Fin 4) (v4 : FVec Ideal S3328x8x128 .f32)
    (hx : ∀ (r : Fin 3328) (s : Fin 8) (l : Fin 128), v4 (ix3 r s l)
      = x (ix5 ⟨32 * i.val + r.val / 104, by omega⟩ ⟨r.val / 13 % 8, by omega⟩ ⟨r.val % 13, by omega⟩
          ⟨s.val / 2 * 128 + l.val, by omega⟩ ⟨s.val % 2, by omega⟩))
    (v24 : FVec Ideal S3328x24 .f32) (v27 : FVec Ideal S256x3328 .f32) (v30 : FVec Ideal S24x2 .f32)
    (hd : ∀ (r : Fin 3328) (j : Fin 24), v24 (ix2 r j) = bit (1 ≤ r.val % 13 ∧ j.val / 2 = r.val % 13 - 1))
    (hs : ∀ (g : Fin 256) (r : Fin 3328), v27 (ix2 g r) = bit (r.val / 13 = g.val))
    (hc : ∀ (j : Fin 24) (k : Fin 2), v30 (ix2 j k) = bit (j.val % 2 = k.val))
    (g : Fin 256) (c : Fin 2) :
    (k0_pay3 (F := Ideal) v0 v2 v4 v24 v27 v30 (ix2 g c) : EReal)
      = Cert.Flow.flowIn x w b ⟨32 * i.val + g.val / 8, by omega⟩ ⟨g.val % 8, by omega⟩ c := by
  pointwise [k0_pay3, k0_pay1, k0_pay2]
  simp only [softplus_form, hd, hs, hc, sum_rows]
  refine (sum_columns _ c).trans (Finset.sum_congr rfl fun a _ => congrArg softplus ?_)
  refine (packed_logit x w b v0 v2 hw hb ⟨32 * i.val + g.val / 8, by omega⟩ ⟨g.val % 8, by omega⟩
    ⟨1 + a.val, by omega⟩ ⟨2 * a.val + c.val, by omega⟩ _ fun κ => ?_).trans ?_
  · refine (hx _ _ _).trans (congrArg x ?_)
    have e : ∀ {n n' : Fin 128} {p p' : Fin 8} {s s' : Fin 13} {e e' : Fin 512} {q q' : Fin 2}, n = n' → p = p' →
        s = s' → e = e' → q = q' → ix5 n p s e q = ix5 n' p' s' e' q' := by
      rintro _ _ _ _ _ _ _ _ _ _ rfl rfl rfl rfl rfl; rfl
    refine e (Fin.ext ?_) (Fin.ext ?_) (Fin.ext ?_) (Fin.ext ?_) (Fin.ext ?_) <;> simp only <;> omega
  · refine congrArg₂ (fun a c => logit x w b _ _ _ a c) (Fin.ext ?_) (Fin.ext ?_) <;> simp only <;> omega

/-- The forward logits of a block, the bias left out. -/
theorem blockForward_at (v32 : FVec Ideal S32x8x8x128 .f32) (g : Fin 256) (j : Fin 24) :
    (k0_pay4 (F := Ideal) v0 v32 (ix2 g j) : EReal) = ∑ κ : Fin 1024, v32 (ix4 ⟨g.val / 8, by omega⟩ ⟨g.val % 8, by omega⟩
      ⟨κ.val / 128, by omega⟩ ⟨κ.val % 128, by omega⟩) * v0 (ix2 j κ) := by
  pointwise [k0_pay4, k0_pay1, k0_pay2]

/-- The flow out of the states of a block: logits with the bias, softplus, columns summed by channel. -/
def blockOut (v3 : FVec Ideal S1x24 .f32) (v35 : FVec Ideal S256x24 .f32) (v52 : FVec Ideal S24x2 .f32) :
    FVec Ideal S256x2 .f32 :=
  let y := addf v35 (broadcastTo S256x24 v3 broadcasts_S1x24_S256x24)
  let z := broadcast S256x24 (Scalar.ofBits .f32 0x00000000#32)
  matmul dot_S256x24_S24x2_S256x2_1_0_0_1_n_n none
    (select (cmpf .one (subf y z) (subf y z)) (addf y z)
      (addf (maximumf y z) (log1p (exp (subf z (absf (subf y z)))))))
    v52 (constant S256x2 .f32 0x00000000#32)

/-- The log-ratios of a block. -/
def blockRatio (out rew : FVec Ideal S256x2 .f32) : FVec Ideal S256x2 .f32 :=
  let d := broadcast S256x2 (Scalar.ofBits .f32 0x1E3CE508#32)
  subf (log (addf d out)) (log (addf (addf d out) rew))

/-- The sums of the log-ratios of earlier steps in a block. -/
def blockBefore (v70 : FVec Ideal S256x256 .f32) (ratio : FVec Ideal S256x2 .f32) : FVec Ideal S256x2 .f32 :=
  matmul dot_S256x256_S256x2_S256x2_1_0_0_1_n_n none v70 ratio (constant S256x2 .f32 0x00000000#32)

/-- Six arrays of two columns side by side, their columns permuted by a table. -/
def blockRows (a₀ a₁ a₂ a₃ a₄ a₅ : FVec Ideal S256x2 .f32) (v74 : FVec Ideal S12x12 .f32) : FVec Ideal S256x12 .f32 :=
  matmul dot_S256x12_S12x12_S256x12_1_0_0_1_n_n none
    (concatenate S256x12 1 [⟨S256x2, a₀⟩, ⟨S256x2, a₁⟩, ⟨S256x2, a₂⟩, ⟨S256x2, a₃⟩, ⟨S256x2, a₄⟩, ⟨S256x2, a₅⟩]
      concatenates_S256x2_S256x2_S256x2_S256x2_S256x2_S256x2_S256x12_d1)
    v74 (constant S256x12 .f32 0x00000000#32)

/-- The block's result is these stages in turn. -/
theorem block_eq (v3 : FVec Ideal S1x24 .f32) (v31 : FVec Ideal S256x2 .f32) (v35 : FVec Ideal S256x24 .f32)
    (v52 : FVec Ideal S24x2 .f32) (v54 v56 v58 : FVec Ideal S256x2 .f32) (v70 : FVec Ideal S256x256 .f32)
    (v74 : FVec Ideal S12x12 .f32) :
    k0_pay5 (F := Ideal) v3 v31 v35 v52 v54 v56 v58 v70 v74
      = blockRows v31 (blockOut v3 v35 v52) v54 (mulf v56 (exp v58))
          (blockBefore v70 (blockRatio (blockOut v3 v35 v52) v54)) v54 v74 := by
  have h : k0_pay5 (F := Ideal) v3 v31 v35 v52 v54 v56 v58 v70 v74
      = blockRows v31 (blockOut v3 v35 v52) (shapeCast S256x2 v54 shapeCasts_S256x2_S256x2)
          (mulf (shapeCast S256x2 v56 shapeCasts_S256x2_S256x2) (exp (shapeCast S256x2 v58 shapeCasts_S256x2_S256x2)))
          (blockBefore (shapeCast S256x256 v70 shapeCasts_S256x256_S256x256)
            (blockRatio (blockOut v3 v35 v52) (shapeCast S256x2 v54 shapeCasts_S256x2_S256x2)))
          (shapeCast S256x2 v54 shapeCasts_S256x2_S256x2) v74 := rfl
  rw [h]
  simp only [shapeCast_self]

/-- The flow out at an index. -/
theorem blockOut_at (hb : HoldsBiases b v2) (hw : HoldsWeights w v0) (i : Fin 4) (v32 : FVec Ideal S32x8x8x128 .f32)
    (hx : ∀ (n : Fin 32) (p s : Fin 8) (l : Fin 128), v32 (ix4 n p s l)
      = x (ix5 ⟨32 * i.val + n.val, by omega⟩ p 0 ⟨s.val / 2 * 128 + l.val, by omega⟩ ⟨s.val % 2, by omega⟩))
    (v52 : FVec Ideal S24x2 .f32) (hc : ∀ (j : Fin 24) (k : Fin 2), v52 (ix2 j k) = bit (j.val % 2 = k.val))
    (g : Fin 256) (c : Fin 2) :
    (blockOut (k0_pay2 v2) (k0_pay4 v0 v32) v52 (ix2 g c) : EReal)
      = Cert.Flow.flowOut x w b ⟨32 * i.val + g.val / 8, by omega⟩ ⟨g.val % 8, by omega⟩ c := by
  pointwise [blockOut, k0_pay2]
  simp only [softplus_form, hc]
  refine (sum_columns _ c).trans (Finset.sum_congr rfl fun a _ => congrArg softplus ?_)
  rw [blockForward_at]
  refine (packed_logit x w b v0 v2 hw hb ⟨32 * i.val + g.val / 8, by omega⟩ ⟨g.val % 8, by omega⟩ 0 ⟨2 * a.val + c.val, by omega⟩ _
    fun κ => ?_).trans ?_
  · refine (hx _ _ _ _).trans (congrArg x ?_)
    refine congrArg₂ (fun e q => ix5 _ _ _ e q) (Fin.ext ?_) (Fin.ext ?_) <;> simp only <;> omega
  · refine congrArg₂ (fun a c => logit x w b _ _ _ a c) (Fin.ext ?_) (Fin.ext ?_) <;> simp only <;> omega

/-- The log-ratio at an index. -/
theorem blockRatio_at (out rew : FVec Ideal S256x2 .f32) (g : Fin 256) (c : Fin 2) :
    (blockRatio out rew (ix2 g c) : EReal) = Cert.Flow.ratio (out (ix2 g c)) (rew (ix2 g c)) := by
  unfold Cert.Flow.ratio Cert.Flow.offset
  pointwise [blockRatio]

/-- The sum over earlier steps at an index. -/
theorem blockBefore_at (v70 : FVec Ideal S256x256 .f32) (ratio : FVec Ideal S256x2 .f32)
    (ht : ∀ g h : Fin 256, v70 (ix2 g h) = bit (g.val / 8 = h.val / 8 ∧ h.val % 8 < g.val % 8))
    (g : Fin 256) (c : Fin 2) :
    (blockBefore v70 ratio (ix2 g c) : EReal)
      = Cert.Flow.before (fun q => ratio (ix2 ⟨8 * (g.val / 8) + q.val, by omega⟩ c)) ⟨g.val % 8, by omega⟩ := by
  pointwise [blockBefore]
  simp only [ht]
  exact sum_steps (fun h => ratio (ix2 h c)) g

/-- Six pieces of width 2, picked by subtracting their widths in turn, are picked by halving the position. -/
theorem picked {α : Type} (f₀ f₁ f₂ f₃ f₄ f₅ : Fin 2 → α) (κ : ℕ) (hκ : κ < 12) :
    (if h : κ < 2 then f₀ ⟨κ, h⟩ else if h : κ - 2 < 2 then f₁ ⟨κ - 2, h⟩
      else if h : κ - 2 - 2 < 2 then f₂ ⟨κ - 2 - 2, h⟩ else if h : κ - 2 - 2 - 2 < 2 then f₃ ⟨κ - 2 - 2 - 2, h⟩
      else if h : κ - 2 - 2 - 2 - 2 < 2 then f₄ ⟨κ - 2 - 2 - 2 - 2, h⟩ else f₅ ⟨κ - 2 - 2 - 2 - 2 - 2, by omega⟩)
      = if κ / 2 = 0 then f₀ ⟨κ % 2, by omega⟩ else if κ / 2 = 1 then f₁ ⟨κ % 2, by omega⟩
        else if κ / 2 = 2 then f₂ ⟨κ % 2, by omega⟩ else if κ / 2 = 3 then f₃ ⟨κ % 2, by omega⟩
        else if κ / 2 = 4 then f₄ ⟨κ % 2, by omega⟩ else f₅ ⟨κ % 2, by omega⟩ := by
  interval_cases κ <;> rfl

/-- A block's row: six entries for channel 0, then six for channel 1. -/
theorem blockRows_at (a₀ a₁ a₂ a₃ a₄ a₅ : FVec Ideal S256x2 .f32) (v74 : FVec Ideal S12x12 .f32)
    (hp : ∀ x k : Fin 12, v74 (ix2 x k) = bit (x.val % 2 * 6 + x.val / 2 = k.val)) (g : Fin 256) (k : Fin 12)
    (c : Fin 2) (h : c.val = k.val / 6) :
    (blockRows a₀ a₁ a₂ a₃ a₄ a₅ v74 (ix2 g k) : EReal)
      = if k.val % 6 = 0 then a₀ (ix2 g c) else if k.val % 6 = 1 then a₁ (ix2 g c)
        else if k.val % 6 = 2 then a₂ (ix2 g c) else if k.val % 6 = 3 then a₃ (ix2 g c)
        else if k.val % 6 = 4 then a₄ (ix2 g c) else a₅ (ix2 g c) := by
  have main := picked (fun q => a₀ (ix2 g q)) (fun q => a₁ (ix2 g q)) (fun q => a₂ (ix2 g q)) (fun q => a₃ (ix2 g q))
    (fun q => a₄ (ix2 g q)) (fun q => a₅ (ix2 g q)) (k.val % 6 * 2 + k.val / 6) (by omega)
  have e₁ : (k.val % 6 * 2 + k.val / 6) / 2 = k.val % 6 := by omega
  have e₂ : (⟨(k.val % 6 * 2 + k.val / 6) % 2, by omega⟩ : Fin 2) = c := Fin.ext (by simp only; omega)
  simp only [e₁, e₂] at main
  rw [← main]
  pointwise [blockRows]
  simp only [hp]
  exact sum_perm _ k

/-- A block's result at an index: the entry of its row's path and step, and its column's channel and place. -/
theorem block_at (y : Cert.Flow.Edges) (pif rew : Cert.Flow.Steps) (ini : Cert.Flow.Channels)
    (hw : HoldsWeights w v0) (hb : HoldsBiases b v2) (i : Fin 4) (v4 : FVec Ideal S3328x8x128 .f32)
    (hx : ∀ (r : Fin 3328) (s : Fin 8) (l : Fin 128), v4 (ix3 r s l)
      = x (ix5 ⟨32 * i.val + r.val / 104, by omega⟩ ⟨r.val / 13 % 8, by omega⟩ ⟨r.val % 13, by omega⟩
          ⟨s.val / 2 * 128 + l.val, by omega⟩ ⟨s.val % 2, by omega⟩))
    (v24 : FVec Ideal S3328x24 .f32) (v27 : FVec Ideal S256x3328 .f32) (v30 : FVec Ideal S24x2 .f32)
    (hd : ∀ (r : Fin 3328) (j : Fin 24), v24 (ix2 r j) = bit (1 ≤ r.val % 13 ∧ j.val / 2 = r.val % 13 - 1))
    (hs : ∀ (g : Fin 256) (r : Fin 3328), v27 (ix2 g r) = bit (r.val / 13 = g.val))
    (hc : ∀ (j : Fin 24) (k : Fin 2), v30 (ix2 j k) = bit (j.val % 2 = k.val))
    (v32 : FVec Ideal S32x8x8x128 .f32)
    (hy : ∀ (n : Fin 32) (p s : Fin 8) (l : Fin 128), v32 (ix4 n p s l)
      = y (ix5 ⟨32 * i.val + n.val, by omega⟩ p 0 ⟨s.val / 2 * 128 + l.val, by omega⟩ ⟨s.val % 2, by omega⟩))
    (v54 v56 v58 : FVec Ideal S256x2 .f32)
    (hr : ∀ (g : Fin 256) (k : Fin 2), v54 (ix2 g k)
      = rew (ix3 ⟨32 * i.val + g.val / 8, by omega⟩ ⟨g.val % 8, by omega⟩ k))
    (hf : ∀ (g : Fin 256) (k : Fin 2), v56 (ix2 g k)
      = pif (ix3 ⟨32 * i.val + g.val / 8, by omega⟩ ⟨g.val % 8, by omega⟩ k))
    (hi : ∀ (g : Fin 256) (k : Fin 2), v58 (ix2 g k) = ini (ix1 k))
    (v70 : FVec Ideal S256x256 .f32)
    (ht : ∀ g h : Fin 256, v70 (ix2 g h) = bit (g.val / 8 = h.val / 8 ∧ h.val % 8 < g.val % 8))
    (v74 : FVec Ideal S12x12 .f32)
    (hp : ∀ x k : Fin 12, v74 (ix2 x k) = bit (x.val % 2 * 6 + x.val / 2 = k.val)) (g : Fin 256) (k : Fin 12) :
    (k0_pay5 (F := Ideal) (k0_pay2 v2) (k0_pay3 v0 v2 v4 v24 v27 v30) (k0_pay4 v0 v32) v30 v54 v56 v58 v70 v74
        (ix2 g k) : EReal)
      = Cert.Flow.entry y x pif rew w b ini ⟨32 * i.val + g.val / 8, by omega⟩ ⟨g.val % 8, by omega⟩
          ⟨k.val / 6, by omega⟩ (k.val % 6) := by
  rw [block_eq, blockRows_at _ _ _ _ _ _ _ hp g k ⟨k.val / 6, by omega⟩ rfl]
  have h₁ : ∀ (g : Fin 256) (c : Fin 2), (blockOut (k0_pay2 v2) (k0_pay4 v0 v32) v30 (ix2 g c) : EReal)
      = Cert.Flow.flowOut y w b ⟨32 * i.val + g.val / 8, by omega⟩ ⟨g.val % 8, by omega⟩ c :=
    blockOut_at y w b v0 v2 hb hw i v32 hy v30 hc
  have h₃ : ∀ (g : Fin 256) (c : Fin 2), (mulf v56 (exp v58) (ix2 g c) : EReal)
      = pif (ix3 ⟨32 * i.val + g.val / 8, by omega⟩ ⟨g.val % 8, by omega⟩ c) * Ideal.exp (ini (ix1 c)) :=
    fun g c => congrArg₂ (fun a b : EReal => a * Ideal.exp b) (hf g c) (hi g c)
  have h₄ : ∀ (c : Fin 2),
      (blockBefore v70 (blockRatio (blockOut (k0_pay2 v2) (k0_pay4 v0 v32) v30) v54) (ix2 g c) : EReal)
        = Cert.Flow.before (fun q => Cert.Flow.stepRatio y w b rew ⟨32 * i.val + g.val / 8, by omega⟩ q c)
            ⟨g.val % 8, by omega⟩ := by
    intro c
    refine (blockBefore_at v70 _ ht g c).trans (congrArg (fun f => Cert.Flow.before f _) (funext fun q => ?_))
    have e₁ : (8 * (g.val / 8) + q.val) / 8 = g.val / 8 := by omega
    have e₂ : (8 * (g.val / 8) + q.val) % 8 = q.val := by omega
    rw [blockRatio_at, h₁, hr]
    simp only [e₁, e₂]
    rfl
  unfold Cert.Flow.entry
  rw [blockIn_at x w b v0 v2 hw hb i v4 hx v24 v27 v30 hd hs hc, h₁, h₃, h₄, hr]

end

end Cert.KernelIdeal.Flow

end
-- ==== Proof.Value.lean ====
/- The array the kernel leaves: every block is the reference's rows of its 32 paths. -/
module

public import proofs.«01_k».proof.Proof.Gen.KernelIdeal.Value
public import Idealize.ShloMosaic.Lib.Pipeline.ValueKit
public import proofs.«01_k».proof.Proof.Windows
public import proofs.«01_k».proof.Proof.Body

@[expose] public section

set_option maxRecDepth 16384

noncomputable section

open Idealize.ShloMosaic

namespace Cert.KernelIdeal.Flow

open Cert.KernelIdeal Cert.KernelIdeal.Gen

variable (m : (ℓ : Loc nD τ sig) → Buf (Elt Ideal) ℓ)

/-- The result's entry at row `256 i + g` and column `k`. -/
theorem result_at (fwd bwd : Cert.Flow.Edges) (pif rew : Cert.Flow.Steps) (w : Cert.Flow.Weights)
    (b : Cert.Flow.Biases) (ini : Cert.Flow.Channels) (i : Fin 4) (g : Fin 256) (k : Fin 12)
    (j : (⟨2, ![1024, 12]⟩ : Shape).Idx) (h₀ : (j 0).val = 256 * i.val + g.val) (h₁ : (j 1).val = k.val) :
    Cert.Flow.entry fwd bwd pif rew w b ini ⟨32 * i.val + g.val / 8, by omega⟩ ⟨g.val % 8, by omega⟩
        ⟨k.val / 6, by omega⟩ (k.val % 6)
      = Cert.Flow.result fwd bwd pif rew w b ini j := by
  have hb : 256 * i.val + g.val < 1024 := by omega
  have e : ix2 ⟨256 * i.val + g.val, hb⟩ k = j :=
    (congrArg₂ ix2 (Fin.ext h₀.symm) (Fin.ext h₁.symm)).trans (eq_ix2 j).symm
  refine Eq.trans ?_ (congrArg (Cert.Flow.result fwd bwd pif rew w b ini) e)
  have e₁ : (256 * i.val + g.val) / 8 = 32 * i.val + g.val / 8 := by omega
  have e₂ : (256 * i.val + g.val) % 8 = g.val % 8 := by omega
  show _ = Cert.Flow.entry fwd bwd pif rew w b ini ⟨(256 * i.val + g.val) / 8, by omega⟩
    ⟨(256 * i.val + g.val) % 8, by omega⟩ ⟨k.val / 6, by omega⟩ (k.val % 6)
  simp only [e₁, e₂]

/-- The result array. -/
theorem final (c : Dev nD) : (dats m 0 c).arrAt 9 (cfgs 0).N
    = Cert.Flow.result (fwd m c) (bwd m c) (pif m c) (rew m c) (wts m c) (bia m c) (ini m c) := by
  refine (dats m 0 c).arrAt_eq_of_covers 9 _ (by decide +kernel) fun t _ y => ?_
  blk_simp
  rw [after0_9]; frame_out
  have ht : t.val < 4 := t.isLt
  obtain ⟨g, k, rfl⟩ : ∃ (g : Fin 256) (k : Fin 12), y = ix2 g k := ⟨y 0, y 1, eq_ix2 y⟩
  refine (block_at (bwd m c) (wts m c) (bia m c) _ _ (fwd m c) (pif m c) (rew m c) (ini m c)
    (fun j κ => ?_) (fun j => ?_) ⟨t.val, ht⟩ _ (fun r s l => back_block m c t ⟨t.val, ht⟩ rfl r s l) _ _ _
    (fun r j => (diagonal_block m c t r j).trans (diagonal_at m c r j))
    (fun g r => (segment_block m c t g r).trans (segment_at m c g r))
    (fun j k => (columns_block m c t j k).trans (columns_at m c j k)) _
    (fun n p s l => forward_block m c t ⟨t.val, ht⟩ rfl n p s l) _ _ _
    (fun g k => ?_) (fun g k => ?_) (fun g k => ?_) _
    (fun g h => (steps_block m c t g h).trans (steps_at m c g h)) _
    (fun x k => (perm_block m c t x k).trans (perm_at m c x k)) g k).trans
    (result_at _ _ _ _ _ _ _ ⟨t.val, ht⟩ g k _ ?_ ?_)
  · exact (ld_weights _ j κ).trans ((packed_block m c t _ κ).trans (packed_at m c j κ))
  · exact (ld_biases _ j).trans ((packed_block m c t 24 _).trans (bias_at m c j))
  · refine (ld_first _ g k).trans ((rows_block m c t ⟨t.val, ht⟩ rfl g _).trans ((rewards_at m c _ k).trans
      (congrArg (rew m c) (step_ext ?_ ?_)))) <;> simp only <;> omega
  · refine (ld_middle _ g k).trans ((rows_block m c t ⟨t.val, ht⟩ rfl g _).trans ((pathFlows_at m c _ k).trans
      (congrArg (pif m c) (step_ext ?_ ?_)))) <;> simp only <;> omega
  · exact (ld_last _ g k).trans ((rows_block m c t ⟨t.val, ht⟩ rfl g _).trans (initial_at m c _ k))
  · blk_simp [places t]
    exact congrArg (fun a => a + g.val) (Nat.mul_comm t.val 256)
  · blk_simp [places t]

end Cert.KernelIdeal.Flow

end
-- ==== Proof.RefStages.lean ====
/- The reference's result cut into named stages over its argument arrays: the two estimators' logits, the softplus
   that both apply, the flows in and out of each state, the log-ratio of every step with its running sum, and the
   six quantities stacked per path and step. The last theorem says that the reference's composed result is the last
   stage at the arrays that the run started with. -/
module

public import proofs.«01_k».proof.Proof.Gen.ReferenceIdeal.Run
public import Idealize.ShloMosaic.Lib.Pointwise

@[expose] public section

set_option maxRecDepth 16384

noncomputable section

open Idealize.ShloMosaic Idealize.ShloMosaic.TcCoe

namespace Cert.ReferenceIdeal.Flow

open Cert.ReferenceIdeal Cert.ReferenceIdeal.Gen

/-- The logits of the outgoing estimator: slot 0 of the forward edges against the weights, and the bias. -/
def logitOut (x : FVec Ideal S128x8x13x512x2 .f32) (w : FVec Ideal S2x512x12 .f32) (b : FVec Ideal S2x12 .f32) :
    FVec Ideal S128x8x1x12x2 .f32 :=
  addf
    (transpose S128x8x1x12x2 [2, 3, 4, 1, 0]
      (Host.dotGeneral dot_S2x512x12_S128x8x1x512x2_S2x12x128x8x1_1_3_2_012_0_4 none w
        (extractStridedSlice S128x8x1x512x2 ![0, 0, 0, 0, 0] x slices_S128x8x13x512x2_S128x8x1x512x2_0_0_0_0_0))
      transposes_S2x12x128x8x1_S128x8x1x12x2_2_3_4_1_0)
    (broadcastInDim S128x8x1x12x2 ![0, 1, 2, 3, 4] bcast_S1x1x1x12x2_S128x8x1x12x2_0_1_2_3_4
      (broadcastInDim S1x1x1x12x2 ![3, 4] bcast_S12x2_S1x1x1x12x2_3_4
        (transpose S12x2 [1, 0] b transposes_S2x12_S12x2_1_0)))

/-- The logits of the incoming estimator: slots 1 to 12 of the backward edges, every action for every slot. -/
def logitIn (x : FVec Ideal S128x8x13x512x2 .f32) (w : FVec Ideal S2x512x12 .f32) (b : FVec Ideal S2x12 .f32) :
    FVec Ideal S128x8x12x12x2 .f32 :=
  addf
    (transpose S128x8x12x12x2 [2, 3, 4, 1, 0]
      (Host.dotGeneral dot_S2x512x12_S128x8x12x512x2_S2x12x128x8x12_1_3_2_012_0_4 none w
        (extractStridedSlice S128x8x12x512x2 ![0, 0, 1, 0, 0] x slices_S128x8x13x512x2_S128x8x12x512x2_0_0_1_0_0))
      transposes_S2x12x128x8x12_S128x8x12x12x2_2_3_4_1_0)
    (broadcastInDim S128x8x12x12x2 ![0, 1, 2, 3, 4] bcast_S1x1x1x12x2_S128x8x12x12x2_0_1_2_3_4
      (broadcastInDim S1x1x1x12x2 ![3, 4] bcast_S12x2_S1x1x1x12x2_3_4
        (transpose S12x2 [1, 0] b transposes_S2x12_S12x2_1_0)))

/-- Softplus as the reference computes it, on an array of any shape; `z` is the array of zeros. -/
def softplus {s : Shape} (z y : FVec Ideal s .f32) : FVec Ideal s .f32 :=
  select (cmpf .une (subf y z) (subf y z)) (addf y z)
    (addf (maximumf y z) (Host.log1p (Host.exp (Host.negf (Host.absf (subf y z))))))

/-- The flow out of each state: the softplus of its logits summed over the actions. -/
def flowOut (x : FVec Ideal S128x8x13x512x2 .f32) (w : FVec Ideal S2x512x12 .f32) (b : FVec Ideal S2x12 .f32) :
    FVec Ideal S128x8x2 .f32 :=
  Host.reduceAdd
    (shapeCast S128x8x12x2
      (softplus (broadcastInDim S128x8x1x12x2 ![] bcast_S_S128x8x1x12x2 (constant S_ .f32 0x00000000#32))
        (logitOut x w b))
      shapeCasts_S128x8x1x12x2_S128x8x12x2)
    (constant S_ .f32 0x00000000#32) reducesTo_S128x8x12x2_S128x8x2_d2 h_S_

/-- One column of the diagonal's positions: 0 to 11, each through the wrap of negative positions. -/
def diagPos : IVec S12 32 :=
  select (cmpi .slt (iotaInDim S12 32 0) (broadcastInDim S12 ![] bcast_S_S12 (constantI S_ 32 0#32)))
    (addi (iotaInDim S12 32 0) (broadcastInDim S12 ![] bcast_S_S12 (constantI S_ 32 12#32)))
    (iotaInDim S12 32 0)

/-- The diagonal's positions: the pairs `(a, a)`. -/
def diagIdx : IVec S12x2 32 :=
  concatenate S12x2 1
    [⟨S12x1, broadcastInDim S12x1 ![0] bcast_S12_S12x1_0 diagPos⟩,
      ⟨S12x1, broadcastInDim S12x1 ![0] bcast_S12_S12x1_0 diagPos⟩]
    concatenates_S12x1_S12x1_S12x2_d1

/-- The incoming estimates, arranged with slot and action last. -/
def estIn (x : FVec Ideal S128x8x13x512x2 .f32) (w : FVec Ideal S2x512x12 .f32) (b : FVec Ideal S2x12 .f32) :
    FVec Ideal S128x8x2x12x12 .f32 :=
  transpose S128x8x2x12x12 [0, 1, 4, 3, 2]
    (softplus (broadcastInDim S128x8x12x12x2 ![] bcast_S_S128x8x12x12x2 (constant S_ .f32 0x00000000#32))
      (logitIn x w b))
    transposes_S128x8x12x12x2_S128x8x2x12x12_0_1_4_3_2

/-- The flow into each state: the estimates' diagonal summed. -/
def flowIn (x : FVec Ideal S128x8x13x512x2 .f32) (w : FVec Ideal S2x512x12 .f32) (b : FVec Ideal S2x12 .f32) :
    FVec Ideal S128x8x2 .f32 :=
  Host.reduceAdd
    (transpose S128x8x12x2 [0, 1, 3, 2]
      (Host.gather gather_S128x8x2x12x12_S12x2_S128x8x2x12_012_34_n_n_34_1_1288211 (estIn x w b) diagIdx)
      transposes_S128x8x2x12_S128x8x12x2_0_1_3_2)
    (constant S_ .f32 0x00000000#32) reducesTo_S128x8x12x2_S128x8x2_d2 h_S_

/-- The reward over 1. -/
def rewardOver (r : FVec Ideal S128x8x2 .f32) : FVec Ideal S128x8x2 .f32 :=
  Host.divf r (broadcastInDim S128x8x2 ![] bcast_S_S128x8x2 (constant S_ .f32 0x3F800000#32))

/-- The initial flow along each path. -/
def flowInit (p : FVec Ideal S128x8x2 .f32) (i : FVec Ideal S2 .f32) : FVec Ideal S128x8x2 .f32 :=
  mulf
    (mulf p
      (broadcastInDim S128x8x2 ![0, 1, 2] bcast_S1x1x2_S128x8x2_0_1_2
        (broadcastInDim S1x1x2 ![2] bcast_S2_S1x1x2_2
          (mulf (Host.exp i) (broadcastInDim S2 ![] bcast_S_S2 (constant S_ .f32 0x3F800000#32))))))
    (broadcastInDim S128x8x2 ![] bcast_S_S128x8x2 (constant S_ .f32 0x3F800000#32))

/-- The log-ratio of each step: the offset flow out against the same with the reward. -/
def logRatio (f r : FVec Ideal S128x8x2 .f32) : FVec Ideal S128x8x2 .f32 :=
  subf
    (Host.log (addf (broadcastInDim S128x8x2 ![] bcast_S_S128x8x2 (constant S_ .f32 0x1E3CE508#32)) f))
    (Host.log (addf (addf (broadcastInDim S128x8x2 ![] bcast_S_S128x8x2 (constant S_ .f32 0x1E3CE508#32)) f) r))

/-- The running sum of an array along the steps of a path. -/
def runningSum (x : FVec Ideal S128x8x2 .f32) : FVec Ideal S128x8x2 .f32 :=
  Host.reduceWindowAdd ![1, 8, 1] ![1, 1, 1] ![0, 7, 0] ![0, 0, 0] x
    (broadcastInDim S_ ![] bcast_S_S_ (constant S_ .f32 0x00000000#32))
    reduceWindows_S128x8x2_S128x8x2_w1s1p0_0_w8s1p7_0_w1s1p0_0 h_S_

/-- The running sum moved one step along: 0 at the first step. -/
def sumBefore (x : FVec Ideal S128x8x2 .f32) : FVec Ideal S128x8x2 .f32 :=
  concatenate S128x8x2 1
    [⟨S128x1x2, broadcastInDim S128x1x2 ![] bcast_S_S128x1x2 (constant S_ .f32 0x00000000#32)⟩,
      ⟨S128x7x2, extractStridedSlice S128x7x2 ![0, 0, 0] (runningSum x) slices_S128x8x2_S128x7x2_0_0_0⟩]
    concatenates_S128x1x2_S128x7x2_S128x8x2_d1

/-- Six arrays stacked per path, step and channel, and laid out one step per row. -/
def stacked (a₀ a₁ a₂ a₃ a₄ a₅ : FVec Ideal S128x8x2 .f32) : FVec Ideal S1024x12 .f32 :=
  shapeCast S1024x12
    (concatenate S128x8x2x6 3
      [⟨S128x8x2x1, broadcastInDim S128x8x2x1 ![0, 1, 2] bcast_S128x8x2_S128x8x2x1_0_1_2 a₀⟩,
        ⟨S128x8x2x1, broadcastInDim S128x8x2x1 ![0, 1, 2] bcast_S128x8x2_S128x8x2x1_0_1_2 a₁⟩,
        ⟨S128x8x2x1, broadcastInDim S128x8x2x1 ![0, 1, 2] bcast_S128x8x2_S128x8x2x1_0_1_2 a₂⟩,
        ⟨S128x8x2x1, broadcastInDim S128x8x2x1 ![0, 1, 2] bcast_S128x8x2_S128x8x2x1_0_1_2 a₃⟩,
        ⟨S128x8x2x1, broadcastInDim S128x8x2x1 ![0, 1, 2] bcast_S128x8x2_S128x8x2x1_0_1_2 a₄⟩,
        ⟨S128x8x2x1, broadcastInDim S128x8x2x1 ![0, 1, 2] bcast_S128x8x2_S128x8x2x1_0_1_2 a₅⟩]
      concatenates_S128x8x2x1_S128x8x2x1_S128x8x2x1_S128x8x2x1_S128x8x2x1_S128x8x2x1_S128x8x2x6_d3)
    shapeCasts_S128x8x2x6_S1024x12

/-- The reference's result over its seven arguments. -/
def result (fwd bwd : FVec Ideal S128x8x13x512x2 .f32) (pif rew : FVec Ideal S128x8x2 .f32)
    (w : FVec Ideal S2x512x12 .f32) (b : FVec Ideal S2x12 .f32) (i : FVec Ideal S2 .f32) : FVec Ideal S1024x12 .f32 :=
  stacked (flowIn bwd w b) (flowOut fwd w b) (rewardOver rew) (flowInit pif i)
    (sumBefore (logRatio (flowOut fwd w b) (rewardOver rew))) rew

set_option maxHeartbeats 1000000 in
/-- The reference's composed result is the last stage at the arrays the run started with. -/
theorem res_eq (m : (ℓ : Loc nD τ sig) → Buf (Elt Ideal) ℓ) (c : Dev nD) :
    Value.res_main_v52 m c
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  unfold Value.res_main_v52
  rfl

end Cert.ReferenceIdeal.Flow

end
-- ==== Proof.RefAt.lean ====
/- The reference's stages read at an index, down to the numbers of the module of what both programs compute. Two
   operations need an argument of their own: the gather that takes the diagonal, and the windowed sum that is a
   running sum. -/
module

public import proofs.«01_k».proof.Proof.RefStages
public import proofs.«01_k».proof.Proof.Spec

@[expose] public section

set_option maxRecDepth 16384

noncomputable section

open Idealize.ShloMosaic

namespace Cert.ReferenceIdeal.Flow

open Cert.ReferenceIdeal Cert.ReferenceIdeal.Gen

section Estimators

variable (x : FVec Ideal S128x8x13x512x2 .f32) (w : FVec Ideal S2x512x12 .f32) (b : FVec Ideal S2x12 .f32)

/-- An outgoing logit. -/
theorem logitOut_at (n : Fin 128) (p : Fin 8) (a : Fin 12) (c : Fin 2) :
    logitOut x w b (ix5 n p 0 a c) = Cert.Flow.logit x w b n p 0 a c := by
  unfold Cert.Flow.logit
  pointwise [logitOut]
  congr 1
  exact Finset.sum_congr rfl fun _ _ => mul_comm _ _

/-- An incoming logit. -/
theorem logitIn_at (n : Fin 128) (p : Fin 8) (s a : Fin 12) (c : Fin 2) :
    logitIn x w b (ix5 n p s a c) = Cert.Flow.logit x w b n p ⟨1 + s.val, by omega⟩ a c := by
  unfold Cert.Flow.logit
  pointwise [logitIn]
  congr 1
  exact Finset.sum_congr rfl fun _ _ => mul_comm _ _

/-- The flow out of a state. -/
theorem flowOut_at (n : Fin 128) (p : Fin 8) (c : Fin 2) :
    flowOut x w b (ix3 n p c) = Cert.Flow.flowOut x w b n p c := by
  unfold Cert.Flow.flowOut
  pointwise [flowOut, softplus]
  refine Finset.sum_congr rfl fun a _ => ?_
  rw [if_neg (fun h => h rfl), logitOut_at]
  rfl

/-- An incoming estimate. -/
theorem estIn_at (n : Fin 128) (p : Fin 8) (s a : Fin 12) (c : Fin 2) :
    estIn x w b (ix5 n p c a s) = Cert.Flow.softplus (Cert.Flow.logit x w b n p ⟨1 + s.val, by omega⟩ a c) := by
  pointwise [estIn, softplus]
  rw [if_neg (fun h => h rfl), logitIn_at]
  rfl

end Estimators

/-- A position of the diagonal, as a word. -/
theorem diagPos_at (a : Fin 12) : diagPos (ix1 a) = BitVec.ofNat 32 a.val := by
  pointwise [diagPos]
  revert a
  decide

/-- Both components of a position of the diagonal. -/
theorem diagIdx_at (a : Fin 12) (h : Fin 2) : diagIdx (ix2 a h) = BitVec.ofNat 32 a.val := by
  have e := diagPos_at a
  pointwise [diagIdx]
  split <;> exact e

/-- The dimension numbers of the gather. -/
abbrev diagDims : GatherDims S128x8x2x12x12 S12x2 S128x8x2x12 :=
  gather_S128x8x2x12x12_S12x2_S128x8x2x12_012_34_n_n_34_1_1288211

/-- The gather takes the diagonal. -/
theorem gather_at (y : FVec Ideal S128x8x2x12x12 .f32) (n : Fin 128) (p : Fin 8) (c : Fin 2) (a : Fin 12) :
    Host.gather gather_S128x8x2x12x12_S12x2_S128x8x2x12_012_34_n_n_34_1_1288211 y diagIdx (ix4 n p c a)
      = y (ix5 n p c a a) := by
  have hw : ∀ j : S12x2.Idx, (j 0).val = a.val → min (diagIdx j).toInt.toNat (12 - 1) = a.val := by
    intro j hj
    obtain ⟨u, v, rfl⟩ : ∃ (u : Fin 12) (v : Fin 2), j = ix2 u v := ⟨j 0, j 1, eq_ix2 j⟩
    obtain rfl : u = a := Fin.ext hj
    rw [diagIdx_at]
    clear hj
    revert u
    decide
  have e : ∀ i, (diagDims.operandIdx (ix4 n p c a) diagIdx i).val
      = diagDims.start (ix4 n p c a) diagIdx i + 0 + diagDims.offCoord (ix4 n p c a) i := fun i => by
    rw [← GatherDims.batchCoord_eq_zero diagDims (ix4 n p c a) i List.not_mem_nil]
    rfl
  have off : ∀ i (h : i ∈ diagDims.startIndexMap), (diagDims.operandIdx (ix4 n p c a) diagIdx i).val
      = min (diagIdx (diagDims.siIdx (ix4 n p c a) ⟨_, List.idxOf_lt_length_iff.2 h⟩)).toInt.toNat
          (S128x8x2x12x12.size i - diagDims.sliceSizes i) := fun i h => by
    rw [e i, GatherDims.offCoord_eq_zero _ _ _ (fun k => ((GatherDims.mem_sKept _ _).mp k).1 h)]
    unfold GatherDims.start
    rw [dif_pos h]
    simp only [Nat.add_zero]
  have kept : ∀ i (h : i ∉ diagDims.startIndexMap), (diagDims.operandIdx (ix4 n p c a) diagIdx i).val
      = diagDims.offCoord (ix4 n p c a) i := fun i h => by
    rw [e i]
    unfold GatherDims.start
    rw [dif_neg h]
    simp only [Nat.zero_add]
  unfold Host.gather
  congr 1
  funext i
  refine Fin.ext ?_
  match i with
  | ⟨0, _⟩ => exact (kept 0 (show (0 : Fin 5) ∉ ([3, 4] : List (Fin 5)) by decide)).trans rfl
  | ⟨1, _⟩ => exact (kept 1 (show (1 : Fin 5) ∉ ([3, 4] : List (Fin 5)) by decide)).trans rfl
  | ⟨2, _⟩ => exact (kept 2 (show (2 : Fin 5) ∉ ([3, 4] : List (Fin 5)) by decide)).trans rfl
  | ⟨3, _⟩ => exact (off 3 (show (3 : Fin 5) ∈ ([3, 4] : List (Fin 5)) by decide)).trans (hw _ rfl)
  | ⟨4, _⟩ => exact (off 4 (show (4 : Fin 5) ∈ ([3, 4] : List (Fin 5)) by decide)).trans (hw _ rfl)

/-- The flow into a state. -/
theorem flowIn_at (x : FVec Ideal S128x8x13x512x2 .f32) (w : FVec Ideal S2x512x12 .f32) (b : FVec Ideal S2x12 .f32)
    (n : Fin 128) (p : Fin 8) (c : Fin 2) :
    flowIn x w b (ix3 n p c) = Cert.Flow.flowIn x w b n p c := by
  unfold Cert.Flow.flowIn
  pointwise [flowIn]
  refine Finset.sum_congr rfl fun a _ => ?_
  rw [gather_at, estIn_at]

/-- A fold that adds `f` of every element is the sum of the values of `f`. -/
theorem foldl_add {ι : Type} (f : ι → EReal) (l : List ι) (v : EReal) :
    l.foldl (fun r n => r + f n) v = v + (l.map f).sum := by
  induction l generalizing v with
  | nil => simp
  | cons a l ih => simp [ih, add_assoc]

/-- The running sum at a step: the window's eight places, those before the first step counted as zero. -/
theorem runningSum_at (x : FVec Ideal S128x8x2 .f32) (n : Fin 128) (p : Fin 8) (c : Fin 2) :
    runningSum x (ix3 n p c)
      = ∑ k : Fin 8, if h : 7 ≤ p.val + k.val then x (ix3 n ⟨p.val + k.val - 7, by omega⟩ c) else 0 := by
  have hz : (broadcastInDim S_ ![] bcast_S_S_ (constant (F := Ideal) S_ .f32 0x00000000#32)) (Shape.Idx.first h_S_) = (0 : EReal) := by
    pointwise
  unfold runningSum Host.reduceWindowAdd
  rw [hz]
  simp only [Ideal.hostReduceWindowAdd_def]
  unfold Ideal.hostReduceWindowAdd Host.reduceWindow
  refine (foldl_add _ _ _).trans ?_
  rw [zero_add, ← Fin.sum_univ_def]
  refine Eq.trans (Finset.sum_congr rfl fun i _ => ?_)
    ((Equiv.sum_comp (Shape.rowMajor ⟨3, ![1, 8, 1]⟩).symm
      (fun i => if h : 7 ≤ p.val + (i 1).val then x (ix3 n ⟨p.val + (i 1).val - 7, by
        have : (i 1).val < 8 := (i 1).isLt
        omega⟩ c) else 0)).trans ?_)
  · have h0 : ((Shape.rowMajor ⟨3, ![1, 8, 1]⟩).symm i 0).val < 1 := Fin.isLt _
    have h1 : ((Shape.rowMajor ⟨3, ![1, 8, 1]⟩).symm i 1).val < 8 := Fin.isLt _
    have h2 : ((Shape.rowMajor ⟨3, ![1, 8, 1]⟩).symm i 2).val < 1 := Fin.isLt _
    have hn := n.isLt
    have hp := p.isLt
    have hc := c.isLt
    by_cases h : 7 ≤ p.val + ((Shape.rowMajor ⟨3, ![1, 8, 1]⟩).symm i 1).val
    · rw [dif_pos h]
      refine (dif_pos ?_).trans (congrArg x ?_)
      · intro a
        match a with
        | ⟨0, _⟩ =>
          show 0 ≤ n.val * 1 + ((Shape.rowMajor ⟨3, ![1, 8, 1]⟩).symm i 0).val
            ∧ n.val * 1 + ((Shape.rowMajor ⟨3, ![1, 8, 1]⟩).symm i 0).val - 0 < 128
          omega
        | ⟨1, _⟩ =>
          show 7 ≤ p.val * 1 + ((Shape.rowMajor ⟨3, ![1, 8, 1]⟩).symm i 1).val
            ∧ p.val * 1 + ((Shape.rowMajor ⟨3, ![1, 8, 1]⟩).symm i 1).val - 7 < 8
          omega
        | ⟨2, _⟩ =>
          show 0 ≤ c.val * 1 + ((Shape.rowMajor ⟨3, ![1, 8, 1]⟩).symm i 2).val
            ∧ c.val * 1 + ((Shape.rowMajor ⟨3, ![1, 8, 1]⟩).symm i 2).val - 0 < 2
          omega
      · funext a
        refine Fin.ext ?_
        match a with
        | ⟨0, _⟩ =>
          show n.val * 1 + ((Shape.rowMajor ⟨3, ![1, 8, 1]⟩).symm i 0).val - 0 = n.val
          omega
        | ⟨1, _⟩ =>
          show p.val * 1 + ((Shape.rowMajor ⟨3, ![1, 8, 1]⟩).symm i 1).val - 7
            = p.val + ((Shape.rowMajor ⟨3, ![1, 8, 1]⟩).symm i 1).val - 7
          omega
        | ⟨2, _⟩ =>
          show c.val * 1 + ((Shape.rowMajor ⟨3, ![1, 8, 1]⟩).symm i 2).val - 0 = c.val
          omega
    · rw [dif_neg h]
      refine dif_neg fun hin => h ?_
      have := (hin 1).1
      change 7 ≤ p.val * 1 + ((Shape.rowMajor ⟨3, ![1, 8, 1]⟩).symm i 1).val at this
      omega
  · rw [sum_idx3, Fin.sum_univ_one]
    exact Finset.sum_congr rfl fun k _ => Fin.sum_univ_one _

/-- The running sum moved one step along is the sum over the steps before. -/
theorem sumBefore_at (x : FVec Ideal S128x8x2 .f32) (n : Fin 128) (p : Fin 8) (c : Fin 2) :
    sumBefore x (ix3 n p c) = Cert.Flow.before (fun q => x (ix3 n q c)) p := by
  unfold Cert.Flow.before
  pointwise [sumBefore]
  simp only [runningSum_at]
  fin_vals p with hp
  all_goals simp only [hp, Fin.sum_univ_eight]
  all_goals simp

/-- Over 1, a number is itself. -/
theorem div_one (y : EReal) : Ideal.div y 1 = y := by
  rw [Ideal.div, if_neg one_ne_zero, inv_one, mul_one]

/-- The reward over 1. -/
theorem rewardOver_at (r : FVec Ideal S128x8x2 .f32) (j : S128x8x2.Idx) : rewardOver r j = r j := by
  pointwise [rewardOver]
  exact div_one _

/-- The log-ratio of a step. -/
theorem logRatio_at (f r : FVec Ideal S128x8x2 .f32) (n : Fin 128) (p : Fin 8) (c : Fin 2) :
    logRatio f r (ix3 n p c) = Cert.Flow.ratio (f (ix3 n p c)) (r (ix3 n p c)) := by
  unfold Cert.Flow.ratio Cert.Flow.offset
  pointwise [logRatio]

/-- The initial flow along a path. -/
theorem flowInit_at (p : FVec Ideal S128x8x2 .f32) (i : FVec Ideal S2 .f32) (n : Fin 128) (q : Fin 8) (c : Fin 2) :
    flowInit p i (ix3 n q c) = p (ix3 n q c) * Ideal.exp (i (ix1 c)) := by
  pointwise [flowInit]

/-- Six pieces of width 1 picked by subtracting their widths in turn are picked by their position. -/
theorem pieces {α : Type} (s : ℕ) (hs : s < 6) (x₀ x₁ x₂ x₃ x₄ x₅ : α) :
    (if _h : s < 1 then x₀ else if _h : s - 1 < 1 then x₁ else if _h : s - 1 - 1 < 1 then x₂
      else if _h : s - 1 - 1 - 1 < 1 then x₃ else if _h : s - 1 - 1 - 1 - 1 < 1 then x₄ else x₅)
      = if s = 0 then x₀ else if s = 1 then x₁ else if s = 2 then x₂ else if s = 3 then x₃
        else if s = 4 then x₄ else x₅ := by
  interval_cases s <;> rfl

/-- A row of the stack: six entries for channel 0, then six for channel 1. -/
theorem stacked_at (a₀ a₁ a₂ a₃ a₄ a₅ : FVec Ideal S128x8x2 .f32) (g : Fin 1024) (k : Fin 12)
    (n : Fin 128) (p : Fin 8) (c : Fin 2) (hn : n.val = g.val / 8) (hp : p.val = g.val % 8) (hc : c.val = k.val / 6) :
    stacked a₀ a₁ a₂ a₃ a₄ a₅ (ix2 g k)
      = if k.val % 6 = 0 then a₀ (ix3 n p c)
        else if k.val % 6 = 1 then a₁ (ix3 n p c)
        else if k.val % 6 = 2 then a₂ (ix3 n p c)
        else if k.val % 6 = 3 then a₃ (ix3 n p c)
        else if k.val % 6 = 4 then a₄ (ix3 n p c)
        else a₅ (ix3 n p c) := by
  have hk : k.val % 6 < 6 := Nat.mod_lt _ (by decide)
  have e : (ix3 n p c : S128x8x2.Idx)
      = ix3 ⟨g.val / 8, by omega⟩ ⟨g.val % 8, by omega⟩ ⟨k.val / 6, by omega⟩ := by
    congr 1 <;> exact Fin.ext (by assumption)
  rw [e]
  generalize hj : (ix3 ⟨g.val / 8, by omega⟩ ⟨g.val % 8, by omega⟩ ⟨k.val / 6, by omega⟩ : S128x8x2.Idx) = j
  have main := pieces (k.val % 6) hk (a₀ j) (a₁ j) (a₂ j) (a₃ j) (a₄ j) (a₅ j)
  subst hj
  rw [← main]
  pointwise [stacked]

/-- The reference's result is the one both programs compute. -/
theorem result_eq (fwd bwd : FVec Ideal S128x8x13x512x2 .f32) (pif rew : FVec Ideal S128x8x2 .f32)
    (w : FVec Ideal S2x512x12 .f32) (b : FVec Ideal S2x12 .f32) (i : FVec Ideal S2 .f32) :
    result fwd bwd pif rew w b i = Cert.Flow.result fwd bwd pif rew w b i := by
  funext j
  obtain ⟨g, k, rfl⟩ : ∃ (g : Fin 1024) (k : Fin 12), j = ix2 g k := ⟨j 0, j 1, eq_ix2 j⟩
  unfold result Cert.Flow.result Cert.Flow.entry Cert.Flow.stepRatio
  rw [stacked_at _ _ _ _ _ _ g k ⟨g.val / 8, by omega⟩ ⟨g.val % 8, by omega⟩ ⟨k.val / 6, by omega⟩ rfl rfl rfl]
  simp only [flowIn_at, flowOut_at, rewardOver_at, flowInit_at, sumBefore_at, logRatio_at]
  rfl

end Cert.ReferenceIdeal.Flow

end
-- ==== Proof.lean ====
/- The five claims: the three programs' frames, the idealization, and that the kernel and the reference compute the same
   function over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Value
public import proofs.«01_k».proof.Proof.RefStages
public import proofs.«01_k».proof.Proof.RefAt
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- From memories that agree on the arguments, both programs leave the same result. -/
theorem algebraic : @Cert.algebraic_KernelIdeal_ReferenceIdeal Cert.KernelIdeal.Gen.facts Cert.ReferenceIdeal.Gen.facts := by
  intro m g m' g' _ hargs
  refine ⟨fun c => Cert.Flow.result (Cert.KernelIdeal.Flow.fwd m c) (Cert.KernelIdeal.Flow.bwd m c)
    (Cert.KernelIdeal.Flow.pif m c) (Cert.KernelIdeal.Flow.rew m c) (Cert.KernelIdeal.Flow.wts m c)
    (Cert.KernelIdeal.Flow.bia m c) (Cert.KernelIdeal.Flow.ini m c), ?_, ?_⟩
  · exact (θ_run _ _ _).mono (fun _ h c => ⟨(h c).1.trans (Cert.KernelIdeal.Flow.final m c), (h c).2⟩)
      (Cert.KernelIdeal.Value.run_blocks m g)
  · refine (θ_run _ _ _).mono (fun _ h c => ⟨(h c).1.trans ?_, (h c).2⟩) (Cert.ReferenceIdeal.Value.run m' g')
    obtain ⟨h₀, h₁, h₂, h₃, h₄, h₅, h₆⟩ := hargs c
    refine (Cert.ReferenceIdeal.Flow.res_eq m' c).trans ?_
    rw [h₀, h₁, h₂, h₃, h₄, h₅, h₆]
    exact Cert.ReferenceIdeal.Flow.result_eq _ _ _ _ _ _ _

/-- The reference declares no semaphore, so its run leaves every counter at zero. -/
theorem frameRef : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run m ρ)

/-- Everything that is claimed. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  frameRef, trivial, algebraic⟩

end Cert.Proof

end
